-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .f32) (main_arg1 : FVec F S512x256 .f32) (main_arg2 : FVec F S2x128x16x64 .f32) (main_arg3 : FVec F S2x128x16x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x16x64 .f32 := Host.absf main_arg2
  let main_cst_2 : FVec F S_ .f32 := constant S_ .f32 0x7F800000#32
  let main_v10 : FVec F S2x128x16x64 .f32 := broadcastInDim S2x128x16x64 ![] bcast_S_S2x128x16x64 main_cst_2
  let main_v11 : IVec S2x128x16x64 1 := cmpf .olt main_v9 main_v10
  let main_c_3 : IVec S_ 1 := constantI S_ 1 1#1
  let main_v12 : IVec S_ 1 := (fun x v => Host.reduce IntOp.andi x v reducesTo_S2x128x16x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .f32) (main_arg1 : FVec F S512x1024 .f32) (main_arg2 : FVec F S2x128x16x64 .f32) (main_arg3 : FVec F S2x128x16x64 .f32) (main_arg4 : FVec F S1024x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x128x16x64 .f32 := Host.absf main_arg2
  let main_cst_2 : FVec F S_ .f32 := constant S_ .f32 0x7F800000#32
  let main_v10 : FVec F S2x128x16x64 .f32 := broadcastInDim S2x128x16x64 ![] bcast_S_S2x128x16x64 main_cst_2
  let main_v11 : IVec S2x128x16x64 1 := cmpf .olt main_v9 main_v10
  let main_c_3 : IVec S_ 1 := constantI S_ 1 1#1
  let main_v12 : IVec S_ 1 := (fun x v => Host.reduce IntOp.andi x v reducesTo_S2x128x16x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S2x128x4x64 : Shape := ⟨4, ![2, 128, 4, 64]⟩
abbrev S8x64x512 : Shape := ⟨3, ![8, 64, 512]⟩
abbrev S4 : Shape := ⟨1, ![4]⟩
abbrev S8 : Shape := ⟨1, ![8]⟩
abbrev S1 : Shape := ⟨1, ![1]⟩
abbrev S_ : Shape := ⟨0, ![]⟩
abbrev S1x128x4x64 : Shape := ⟨4, ![1, 128, 4, 64]⟩
abbrev S128x4x64 : Shape := ⟨3, ![128, 4, 64]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S64x512 : Shape := ⟨2, ![64, 512]⟩
abbrev S1x64x512 : Shape := ⟨3, ![1, 64, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S2x128x4x64, .f32⟩
  | .local _ .vmem, ⟨5, _⟩ => ⟨S2x128x4x64, .f32⟩
  | .local _ .vmem, ⟨6, _⟩ => ⟨S8x64x512, .bf16⟩
  | .local _ .vmem, ⟨7, _⟩ => ⟨S8x64x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.muli v2 c4_i32_0
  let c0_i32_8 : BitVec 32 := 0#32
  ![0, 0, v3.toNat, 0]
def k0_off2 (d0 : Dev nD) : Fin 4 → Nat :=
  let c1_i32_17 : BitVec 32 := 1#32
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.muli v2 c4_i32_0
  let c0_i32_23 : BitVec 32 := 0#32
  ![1, 0, v3.toNat, 0]
def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.xori v2 c1_i32_1
  let c1_i32_33 : BitVec 32 := 1#32
  let v31 : BitVec 32 := Scalar.muli v4 c1_i32_33
  let v32 : BitVec 32 := Scalar.addi c0_i32_34 v31
  v32.toNat
def k0_dev2 (d0 : Dev nD) : Nat :=
  let c0_i32_37 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_36 : BitVec 32 := 1#32
  let v33 : BitVec 32 := Scalar.muli v5 c1_i32_36
  let v34 : BitVec 32 := Scalar.addi c0_i32_37 v33
  v34.toNat
def k0_dev3 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.xori v2 c1_i32_1
  let c1_i32_138 : BitVec 32 := 1#32
  let v192 : BitVec 32 := Scalar.muli v4 c1_i32_138
  let v193 : BitVec 32 := Scalar.addi c0_i32_139 v192
  v193.toNat
def k0_dev4 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.xori v2 c1_i32_1
  let c1_i32_148 : BitVec 32 := 1#32
  let v202 : BitVec 32 := Scalar.muli v4 c1_i32_148
  let v203 : BitVec 32 := Scalar.addi c0_i32_149 v202
  v203.toNat
def k0_dev5 (d0 : Dev nD) : Nat :=
  let c0_i32_243 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_242 : BitVec 32 := 1#32
  let v309 : BitVec 32 := Scalar.muli v5 c1_i32_242
  let v310 : BitVec 32 := Scalar.addi c0_i32_243 v309
  v310.toNat
def k0_dev6 (d0 : Dev nD) : Nat :=
  let c0_i32_253 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_252 : BitVec 32 := 1#32
  let v319 : BitVec 32 := Scalar.muli v5 c1_i32_252
  let v320 : BitVec 32 := Scalar.addi c0_i32_253 v319
  v320.toNat
def k0_dev7 (d0 : Dev nD) : Nat :=
  let c0_i32_287 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_286 : BitVec 32 := 1#32
  let v352 : BitVec 32 := Scalar.muli v5 c1_i32_286
  let v353 : BitVec 32 := Scalar.addi c0_i32_287 v352
  v353.toNat
def k0_dev8 (d0 : Dev nD) : Nat :=
  let c0_i32_320 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_319 : BitVec 32 := 1#32
  let v385 : BitVec 32 := Scalar.muli v5 c1_i32_319
  let v386 : BitVec 32 := Scalar.addi c0_i32_320 v385
  v386.toNat
def k0_dev9 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.xori v2 c1_i32_1
  let c1_i32_352 : BitVec 32 := 1#32
  let v418 : BitVec 32 := Scalar.muli v4 c1_i32_352
  let v419 : BitVec 32 := Scalar.addi c0_i32_353 v418
  v419.toNat
def k0_dev10 (d0 : Dev nD) : Nat :=
  let c0_i32_386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.xori v2 c1_i32_1
  let c1_i32_385 : BitVec 32 := 1#32
  let v451 : BitVec 32 := Scalar.muli v4 c1_i32_385
  let v452 : BitVec 32 := Scalar.addi c0_i32_386 v451
  v452.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x128x16x64, .f32⟩
  | .hbm, ⟨3, _⟩ => ⟨S2x128x16x64, .f32⟩
  | .hbm, ⟨4, _⟩ => ⟨S1024x512, .f32⟩
  | .hbm, ⟨5, _⟩ => ⟨S2x128x1024, .f32⟩
  | .hbm, ⟨6, _⟩ => ⟨S2x128x16x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S2x16x128x128, .f32⟩
  | .hbm, ⟨85, _⟩ => ⟨S_, .f32⟩
  | .hbm, ⟨86, _⟩ => ⟨S2x16x128x128, .f32⟩
  | .hbm, ⟨87, _⟩ => ⟨S2x16x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S2x16x128x128, .i1⟩
  | .hbm, ⟨92, _⟩ => ⟨S2x16x128x128, .f32⟩
  | .hbm, ⟨93, _⟩ => ⟨S2x16x128x128, .f32⟩
  | .hbm, ⟨94, _⟩ => ⟨S_, .f32⟩
  | .hbm, ⟨95, _⟩ => ⟨S2x16x128, .f32⟩
  | .hbm, ⟨96, _⟩ => ⟨S2x16x128x1, .f32⟩
  | .hbm, ⟨97, _⟩ => ⟨S2x16x128x128, .f32⟩
  | .hbm, ⟨98, _⟩ => ⟨S2x16x128x128, .f32⟩
  | .hbm, ⟨99, _⟩ => ⟨S2x16x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x16x128, .f32⟩
  | .hbm, ⟨105, _⟩ => ⟨S2x16x128x1, .f32⟩
  | .hbm, ⟨106, _⟩ => ⟨S_, .f32⟩
  | .hbm, ⟨107, _⟩ => ⟨S_, .f32⟩
  | .hbm, ⟨108, _⟩ => ⟨S2x16x128x1, .i1⟩
  | .hbm, ⟨109, _⟩ => ⟨S2x16x128x1, .f32⟩
  | .hbm, ⟨110, _⟩ => ⟨S2x16x128x1, .f32⟩
  | .hbm, ⟨111, _⟩ => ⟨S2x16x128x128, .f32⟩
  | .hbm, ⟨112, _⟩ => ⟨S2x16x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x16x128x128, .i1⟩
  | .hbm, ⟨117, _⟩ => ⟨S2x16x128x128, .f32⟩
  | .hbm, ⟨118, _⟩ => ⟨S2x16x128x128, .f32⟩
  | .hbm, ⟨119, _⟩ => ⟨S2x16x64x128, .f32⟩
  | .hbm, ⟨120, _⟩ => ⟨S2x128x16x64, .f32⟩
  | .hbm, ⟨121, _⟩ => ⟨S2x128x1024, .f32⟩
  | .hbm, ⟨122, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Exchange.Slots.lean ====
/-
# The buffers of the head-parallel attention kernel, cut into the parts its transfers move

Slot `k` of the send and of the receive buffer is the half of a row block that one transfer of the exchange moves. A batch of
the key or value scratch is what one local copy fills from the operand in HBM. This module names those parts and says which
buffer elements each covers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Exchange

open Cert.KernelIdeal Cert.KernelIdeal.Gen

open Idealize.ShloMosaic Idealize.ShloMosaic.ValueIdx
open Idealize.ShloMosaic.TcCoe

variable {F : FTy → Type} [FloatOps F]

/-! ## The partners -/

set_option backward.proofsInPublic true in
/-- The neighbour along the first axis of the square: the device number with its low bit flipped. -/
def pa (c : Dev nD) : Dev nD := ⟨c.val ^^^ 1, by revert c; decide⟩
set_option backward.proofsInPublic true in
/-- The neighbour along the second axis: three minus the device number. -/
def pb (c : Dev nD) : Dev nD := ⟨3 - c.val, by revert c; decide⟩

theorem pa_pa (c : Dev nD) : pa (pa c) = c := by revert c; decide
theorem pb_pb (c : Dev nD) : pb (pb c) = c := by revert c; decide

/-- The partner of slot `k`: the first batch goes to `pa` in round one and to `pb` in round two, the second batch the other way round. -/
def partner (k : Fin 8) (c : Dev nD) : Dev nD := if k.val = 0 ∨ k.val = 1 ∨ k.val = 6 ∨ k.val = 7 then pa c else pb c

theorem partner_partner (k : Fin 8) (c : Dev nD) : partner k (partner k c) = c := by revert k c; decide

theorem dev1_eq (c : Dev nD) : (⟨k0_dev1 c, k0_dev1_lt c⟩ : Dev nD) = pa c := by revert c; decide
theorem dev2_eq (c : Dev nD) : (⟨k0_dev2 c, k0_dev2_lt c⟩ : Dev nD) = pb c := by revert c; decide
theorem dev3_eq (c : Dev nD) : (⟨k0_dev3 c, k0_dev3_lt c⟩ : Dev nD) = partner 0 c := by revert c; decide
theorem dev4_eq (c : Dev nD) : (⟨k0_dev4 c, k0_dev4_lt c⟩ : Dev nD) = partner 1 c := by revert c; decide
theorem dev5_eq (c : Dev nD) : (⟨k0_dev5 c, k0_dev5_lt c⟩ : Dev nD) = partner 2 c := by revert c; decide
theorem dev6_eq (c : Dev nD) : (⟨k0_dev6 c, k0_dev6_lt c⟩ : Dev nD) = partner 3 c := by revert c; decide
theorem dev7_eq (c : Dev nD) : (⟨k0_dev7 c, k0_dev7_lt c⟩ : Dev nD) = partner 4 c := by revert c; decide
theorem dev8_eq (c : Dev nD) : (⟨k0_dev8 c, k0_dev8_lt c⟩ : Dev nD) = partner 5 c := by revert c; decide
theorem dev9_eq (c : Dev nD) : (⟨k0_dev9 c, k0_dev9_lt c⟩ : Dev nD) = partner 6 c := by revert c; decide
theorem dev10_eq (c : Dev nD) : (⟨k0_dev10 c, k0_dev10_lt c⟩ : Dev nD) = partner 7 c := by revert c; decide

/-! ## The slots of the exchange -/

theorem slot_inb (k : Fin 8) : ∀ a, (![k.val, 0, 0] : Fin 3 → Nat) a + S1x64x512.size a ≤ S8x64x512.size a := by revert k; decide
/-- The rectangle of slot `k`. -/
abbrev slotR (k : Fin 8) : Rect S8x64x512 := Rect.unit (s := S8x64x512) ![k.val, 0, 0] S1x64x512.size (slot_inb k)
/-- Slot `k` of the send buffer and of the receive buffer. -/
abbrev sendM (k : Fin 8) : Memref sig .tc .vmem S64x512 .bf16 :=
  ((Memref.whole cc0_scratch2).slice (slotR k) (fun _ => rfl)).squeeze S64x512 squeezes_S1x64x512_S64x512
abbrev commM (k : Fin 8) : Memref sig .tc .vmem S64x512 .bf16 :=
  ((Memref.whole cc0_scratch3).slice (slotR k) (fun _ => rfl)).squeeze S64x512 squeezes_S1x64x512_S64x512

/-- The buffer elements of slot `k`. -/
def slotSet (k : Fin 8) : Finset S8x64x512.Idx := (slotR k).set

theorem mem_slotSet (k : Fin 8) (i : S8x64x512.Idx) : i ∈ slotSet k ↔ (i 0 : Nat) = k.val := by
  unfold slotSet
  rw [Rect.mem_set_unit]
  constructor
  · intro h; have := h 0; simp at this; omega
  · intro h a
    have h1 := (i 1).isLt; have h2 := (i 2).isLt
    fin_cases a
    · simp; omega
    · simp; simpa using h1
    · simp; simpa using h2

theorem slots_disjoint : ∀ t ∈ (Finset.univ : Finset (Fin 8)), ∀ t' ∈ (Finset.univ : Finset (Fin 8)), t ≠ t' → Disjoint (slotSet t) (slotSet t') :=
  fun t _ t' _ h => Finset.disjoint_left.mpr fun i hi hi' => h (Fin.ext (by rw [mem_slotSet] at hi hi'; omega))
theorem slots_cover : (Finset.univ : Finset (Fin 8)).biUnion slotSet = (Finset.univ : Finset S8x64x512.Idx) :=
  Finset.eq_univ_iff_forall.mpr fun i => Finset.mem_biUnion.mpr ⟨⟨(i 0).val, (i 0).isLt⟩, Finset.mem_univ _, (mem_slotSet _ _).mpr rfl⟩

theorem sendM_set (k : Fin 8) : (sendM k).view.set = slotSet k := by
  rw [Memref.set_view_squeeze]; exact View.set_slice_whole _ _
theorem commM_set (k : Fin 8) : (commM k).view.set = slotSet k := by
  rw [Memref.set_view_squeeze]; exact View.set_slice_whole _ _

/-- What an access through the rectangle of slot `k` touches. -/
theorem send_access (k : Fin 8) : ((Memref.whole cc0_scratch2).access (slotR k)).setOn Finset.univ = slotSet k := View.set_slice_whole _ _
theorem send_reads (k : Fin 8) : (Memref.whole cc0_scratch2).view.setOn (slotR k).toLoadRect.set = slotSet k := by
  ext i; simp [View.setOn, slotSet]
theorem comm_reads (k : Fin 8) : (Memref.whole cc0_scratch3).view.setOn (slotR k).toLoadRect.set = slotSet k := by
  ext i; simp [View.setOn, slotSet]

/-- The buffer index of element `x` of slot `k`. -/
theorem slot_emb (k : Fin 8) (x : S1x64x512.Idx) : (slotR k).emb x ∈ slotSet k :=  by
  unfold slotSet; rw [← Rect.map_emb_univ]; exact Finset.mem_map_of_mem _ (Finset.mem_univ x)

theorem exists_slot_emb (k : Fin 8) {i : S8x64x512.Idx} (h : i ∈ slotSet k) : ∃ x : S1x64x512.Idx, (slotR k).emb x = i := by
  unfold slotSet at h; rw [← Rect.map_emb_univ] at h
  obtain ⟨x, -, hx⟩ := Finset.mem_map.mp h
  exact ⟨x, hx⟩

/-- The index of a slot's block at row `a`, column `b`. -/
abbrev blk (a : Fin 64) (b : Fin 512) : S1x64x512.Idx := ix3 (n0 := 1) (n1 := 64) (n2 := 512) (0 : Fin 1) a b

/-- A buffer whose slot `k` holds `snd k`, for every `k`. -/
def gather (snd : Fin 8 → FVec F S1x64x512 .bf16) : S8x64x512.Idx → Elt F .bf16 :=
  fun i => snd ⟨(i 0).val, (i 0).isLt⟩ (blk (i 1) (i 2))

theorem gather_emb (snd : Fin 8 → FVec F S1x64x512 .bf16) (k : Fin 8) (x : S1x64x512.Idx) :
    gather snd ((slotR k).emb x) = snd k x := by
  have h0 : ((slotR k).emb x 0 : Nat) = k.val := (mem_slotSet _ _).mp (slot_emb k x)
  have hk : (⟨((slotR k).emb x 0).val, ((slotR k).emb x 0).isLt⟩ : Fin 8) = k := Fin.ext h0
  have hx : blk ((slotR k).emb x 1) ((slotR k).emb x 2) = x := by
    funext a
    match a with
    | ⟨0, _⟩ => exact Fin.ext (by have : (x 0).val < 1 := (x 0).isLt; show 0 = (x 0).val; omega)
    | ⟨1, _⟩ => exact Fin.ext (by show ((slotR k).emb x 1).val = (x 1).val; simp [Rect.emb_apply])
    | ⟨2, _⟩ => exact Fin.ext (by show ((slotR k).emb x 2).val = (x 2).val; simp [Rect.emb_apply])
  show snd ⟨((slotR k).emb x 0).val, _⟩ (blk ((slotR k).emb x 1) ((slotR k).emb x 2)) = _
  rw [hx]; exact congrArg (fun k => snd k x) hk

/-- Storing `snd k` into slot `k` of the send buffer makes the slot hold it. -/
theorem store_send (snd : Fin 8 → FVec F S1x64x512 .bf16) (k : Fin 8) (f : (cc0_scratch2 : Ref sig .tc).ty.Contents (Elt F)) :
    ∀ i ∈ slotSet k, ((Memref.whole cc0_scratch2).access (slotR k) : View sig .tc _ _ _).write (Elt F) f (snd k) Finset.univ i = gather snd i := by
  intro i hi
  obtain ⟨x, rfl⟩ := exists_slot_emb k hi
  rw [gather_emb]
  exact View.write_emb_of_mem (v := (Memref.whole cc0_scratch2).access (slotR k)) f (snd k) (M := Finset.univ) (x := x) (Finset.mem_univ x)

/-- What a transfer lands in slot `k` of the receive buffer is what slot `k` of the sender's send buffer held. -/
theorem land_comm (k : Fin 8) (fd : (cc0_scratch3 : Ref sig .tc).ty.Contents (Elt F)) (fs : (cc0_scratch2 : Ref sig .tc).ty.Contents (Elt F)) :
    ∀ i ∈ slotSet k, (commM k).view.write (Elt F) fd ((sendM k).view.read (Elt F) fs) Finset.univ i = fs i := by
  intro i hi
  rw [← commM_set k] at hi
  obtain ⟨x, -, rfl⟩ := Finset.mem_map.mp hi
  exact View.write_emb_of_mem (v := (commM k).view) fd ((sendM k).view.read (Elt F) fs) (M := Finset.univ) (x := x) (Finset.mem_univ x)

/-- Loading slot `k` of a gathered receive buffer reads the slot's contents. -/
theorem load_comm (snd : Fin 8 → FVec F S1x64x512 .bf16) (k : Fin 8) :
    (Memref.whole cc0_scratch3).view.readAt (Elt F) (slotR k).toLoadRect (gather snd) = snd k :=
  funext fun x => gather_emb snd k x

/-! ## The batches of the key and value scratch -/

theorem kv_inb (b : Fin 2) : ∀ a, (![b.val, 0, 0, 0] : Fin 4 → Nat) a + S1x128x4x64.size a ≤ S2x128x4x64.size a := by revert b; decide
/-- The rectangle of batch `b` of the key or value scratch. -/
abbrev kvR (b : Fin 2) : Rect S2x128x4x64 := Rect.unit (s := S2x128x4x64) ![b.val, 0, 0, 0] S1x128x4x64.size (kv_inb b)
theorem src_inb (b : Fin 2) (c : Dev nD) : ∀ a, (![b.val, 0, 4 * c.val, 0] : Fin 4 → Nat) a + S1x128x4x64.size a ≤ S2x128x16x64.size a := by
  revert b c; decide
/-- The rectangle of the operand in HBM that device `c` copies for batch `b`: its own four heads. -/
abbrev srcR (b : Fin 2) (c : Dev nD) : Rect S2x128x16x64 := Rect.unit (s := S2x128x16x64) ![b.val, 0, 4 * c.val, 0] S1x128x4x64.size (src_inb b c)

abbrev kM (b : Fin 2) : Memref sig .tc .vmem S128x4x64 .f32 :=
  ((Memref.whole cc0_scratch0).slice (kvR b) (fun _ => rfl)).squeeze S128x4x64 squeezes_S1x128x4x64_S128x4x64
abbrev vM (b : Fin 2) : Memref sig .tc .vmem S128x4x64 .f32 :=
  ((Memref.whole cc0_scratch1).slice (kvR b) (fun _ => rfl)).squeeze S128x4x64 squeezes_S1x128x4x64_S128x4x64
abbrev kSrc (b : Fin 2) (c : Dev nD) : Memref sig .tc .hbm S128x4x64 .f32 :=
  ((Memref.whole main_arg2).slice (srcR b c) (fun _ => rfl)).squeeze S128x4x64 squeezes_S1x128x4x64_S128x4x64
abbrev vSrc (b : Fin 2) (c : Dev nD) : Memref sig .tc .hbm S128x4x64 .f32 :=
  ((Memref.whole main_arg3).slice (srcR b c) (fun _ => rfl)).squeeze S128x4x64 squeezes_S1x128x4x64_S128x4x64

/-- The operand's view at the offset the kernel computes is the view at the closed offset. -/
theorem kSrc_of (b : Fin 2) (c : Dev nD) (off : Fin 4 → Nat) (h : off = ![b.val, 0, 4 * c.val, 0]) (hi : ∀ a, off a + S1x128x4x64.size a ≤ S2x128x16x64.size a) :
    (((Memref.whole main_arg2).slice (Rect.unit (s := S2x128x16x64) off S1x128x4x64.size hi) (fun _ => rfl)).squeeze S128x4x64 squeezes_S1x128x4x64_S128x4x64
      : Memref sig .tc .hbm S128x4x64 .f32) = kSrc b c := by subst h; rfl
theorem vSrc_of (b : Fin 2) (c : Dev nD) (off : Fin 4 → Nat) (h : off = ![b.val, 0, 4 * c.val, 0]) (hi : ∀ a, off a + S1x128x4x64.size a ≤ S2x128x16x64.size a) :
    (((Memref.whole main_arg3).slice (Rect.unit (s := S2x128x16x64) off S1x128x4x64.size hi) (fun _ => rfl)).squeeze S128x4x64 squeezes_S1x128x4x64_S128x4x64
      : Memref sig .tc .hbm S128x4x64 .f32) = vSrc b c := by subst h; rfl

/-- The elements of batch `b` of the scratch, and those of the operand the batch is copied from. -/
def kvSet (b : Fin 2) : Finset S2x128x4x64.Idx := (kvR b).set
def srcSet (b : Fin 2) (c : Dev nD) : Finset S2x128x16x64.Idx := (srcR b c).set

theorem mem_kvSet (b : Fin 2) (i : S2x128x4x64.Idx) : i ∈ kvSet b ↔ (i 0 : Nat) = b.val := by
  unfold kvSet
  rw [Rect.mem_set_unit]
  constructor
  · intro h; have := h 0; simp at this; omega
  · intro h a
    have h1 := (i 1).isLt; have h2 := (i 2).isLt; have h3 := (i 3).isLt
    fin_cases a
    · simp; omega
    · simp; simpa using h1
    · simp; simpa using h2
    · simp; simpa using h3

theorem kv_disjoint : ∀ t ∈ (Finset.univ : Finset (Fin 2)), ∀ t' ∈ (Finset.univ : Finset (Fin 2)), t ≠ t' → Disjoint (kvSet t) (kvSet t') :=
  fun t _ t' _ h => Finset.disjoint_left.mpr fun i hi hi' => h (Fin.ext (by rw [mem_kvSet] at hi hi'; omega))
theorem kv_cover : (Finset.univ : Finset (Fin 2)).biUnion kvSet = (Finset.univ : Finset S2x128x4x64.Idx) :=
  Finset.eq_univ_iff_forall.mpr fun i => Finset.mem_biUnion.mpr ⟨⟨(i 0).val, (i 0).isLt⟩, Finset.mem_univ _, (mem_kvSet _ _).mpr rfl⟩

theorem src_disjoint (c : Dev nD) : Disjoint (srcSet 0 c) (srcSet 1 c) := Rect.unit_disjoint (0 : Fin 4) (Or.inl (Nat.le_refl 1))
theorem src_sub (c : Dev nD) : srcSet 1 c ⊆ Finset.univ \ srcSet 0 c := fun i hi =>
  Finset.mem_sdiff.mpr ⟨Finset.mem_univ i, fun h => Finset.disjoint_left.mp (src_disjoint c) h hi⟩

theorem kM_set (b : Fin 2) : (kM b).view.set = kvSet b := by rw [Memref.set_view_squeeze]; exact View.set_slice_whole _ _
theorem vM_set (b : Fin 2) : (vM b).view.set = kvSet b := by rw [Memref.set_view_squeeze]; exact View.set_slice_whole _ _
theorem kSrc_set (b : Fin 2) (c : Dev nD) : (kSrc b c).view.set = srcSet b c := by rw [Memref.set_view_squeeze]; exact View.set_slice_whole _ _
theorem vSrc_set (b : Fin 2) (c : Dev nD) : (vSrc b c).view.set = srcSet b c := by rw [Memref.set_view_squeeze]; exact View.set_slice_whole _ _

/-- Head `h` of device `c` is head `4 c + h` of the operand. -/
abbrev headIx (c : Dev nD) (h : Fin 4) : Fin 16 := ⟨4 * c.val + h.val, by have : c.val < 4 := c.isLt; have := h.isLt; omega⟩

/-- The four heads of device `c`, of an operand of sixteen. -/
def heads (X : FVec F S2x128x16x64 .f32) (c : Dev nD) : FVec F S2x128x4x64 .f32 :=
  fun i => X (ix4 (n0 := 2) (n1 := 128) (n2 := 16) (n3 := 64) (i 0) (i 1) (headIx c (i 2)) (i 3))

theorem heads_emb (X : FVec F S2x128x16x64 .f32) (b : Fin 2) (c : Dev nD) (x : S1x128x4x64.Idx) :
    heads X c ((kvR b).emb x) = X ((srcR b c).emb x) := by
  unfold heads
  congr 1
  funext a
  fin_cases a <;> (apply Fin.ext; simp [Rect.emb_apply])

theorem land_k (X : FVec F S2x128x16x64 .f32) (b : Fin 2) (c : Dev nD) (fd : (cc0_scratch0 : Ref sig .tc).ty.Contents (Elt F)) :
    ∀ i ∈ kvSet b, (kM b).view.write (Elt F) fd ((kSrc b c).view.read (Elt F) X) Finset.univ i = heads X c i := by
  intro i hi
  rw [← kM_set b] at hi
  obtain ⟨x, -, rfl⟩ := Finset.mem_map.mp hi
  exact (View.write_emb_of_mem (v := (kM b).view) fd ((kSrc b c).view.read (Elt F) X) (M := Finset.univ) (x := x) (Finset.mem_univ x)).trans
    (heads_emb X b c (Shape.reshapeEquiv squeezes_S1x128x4x64_S128x4x64.numel_eq x)).symm
theorem land_v (X : FVec F S2x128x16x64 .f32) (b : Fin 2) (c : Dev nD) (fd : (cc0_scratch1 : Ref sig .tc).ty.Contents (Elt F)) :
    ∀ i ∈ kvSet b, (vM b).view.write (Elt F) fd ((vSrc b c).view.read (Elt F) X) Finset.univ i = heads X c i := by
  intro i hi
  rw [← vM_set b] at hi
  obtain ⟨x, -, rfl⟩ := Finset.mem_map.mp hi
  exact (View.write_emb_of_mem (v := (vM b).view) fd ((vSrc b c).view.read (Elt F) X) (M := Finset.univ) (x := x) (Finset.mem_univ x)).trans
    (heads_emb X b c (Shape.reshapeEquiv squeezes_S1x128x4x64_S128x4x64.numel_eq x)).symm

/-- One head of one batch of the scratch. -/
theorem head_inb (b : Fin 2) (h : Fin 4) : ∀ a, (![b.val, 0, h.val, 0] : Fin 4 → Nat) a + S1x128x1x64.size a ≤ S2x128x4x64.size a := by revert b h; decide
abbrev headR (b : Fin 2) (h : Fin 4) : Rect S2x128x4x64 := Rect.unit (s := S2x128x4x64) ![b.val, 0, h.val, 0] S1x128x1x64.size (head_inb b h)

/-- Loading head `h` of batch `b` touches elements of batch `b` only. -/
theorem head_sub (b : Fin 2) (h : Fin 4) : (headR b h).set ⊆ kvSet b := fun i hi =>
  (mem_kvSet b i).mpr (by rw [Rect.mem_set_unit] at hi; have := hi 0; simp at this; omega)
theorem k_reads (b : Fin 2) (h : Fin 4) : (Memref.whole cc0_scratch0).view.setOn (headR b h).toLoadRect.set ⊆ kvSet b := by
  intro i hi; apply head_sub b h; simpa [View.setOn] using hi
theorem v_reads (b : Fin 2) (h : Fin 4) : (Memref.whole cc0_scratch1).view.setOn (headR b h).toLoadRect.set ⊆ kvSet b := by
  intro i hi; apply head_sub b h; simpa [View.setOn] using hi

/-- Head `h` of batch `b` as the kernel loads it. -/
def headOf (Y : FVec F S2x128x4x64 .f32) (b : Fin 2) (h : Fin 4) : FVec F S1x128x1x64 .f32 := fun x => Y ((headR b h).emb x)
theorem load_k (Y : FVec F S2x128x4x64 .f32) (b : Fin 2) (h : Fin 4) :
    (Memref.whole cc0_scratch0).view.readAt (Elt F) (headR b h).toLoadRect Y = headOf Y b h := rfl
theorem load_v (Y : FVec F S2x128x4x64 .f32) (b : Fin 2) (h : Fin 4) :
    (Memref.whole cc0_scratch1).view.readAt (Elt F) (headR b h).toLoadRect Y = headOf Y b h := rfl

/-! ## The result's staging buffer -/

theorem out_inb (b h : Fin 2) : ∀ a, (![b.val, 64 * h.val, 0] : Fin 3 → Nat) a + S1x64x512.size a ≤ S2x128x512.size a := by revert b h; decide
/-- Half `h` of the rows of batch `b` of the result. -/
abbrev outR (b h : Fin 2) : Rect S2x128x512 := Rect.unit (s := S2x128x512) ![b.val, 64 * h.val, 0] S1x64x512.size (out_inb b h)

/-- The result assembled from its four halves. -/
def assemble (w : Fin 2 → Fin 2 → FVec F S1x64x512 .f32) : FVec F S2x128x512 .f32 :=
  fun i => w (i 0) ⟨(i 1).val / 64, by have : (i 1).val < 128 := (i 1).isLt; omega⟩ (blk ⟨(i 1).val % 64, Nat.mod_lt _ (by decide)⟩ (i 2))

theorem assemble_emb (w : Fin 2 → Fin 2 → FVec F S1x64x512 .f32) (b h : Fin 2) (x : S1x64x512.Idx) :
    assemble w ((outR b h).emb x) = w b h x := by
  have e0 : ((outR b h).emb x 0 : Nat) = b.val := by have : (x 0).val < 1 := (x 0).isLt; simp [Rect.emb_apply]; omega
  have e1 : ((outR b h).emb x 1 : Nat) = 64 * h.val + (x 1).val := by simp [Rect.emb_apply]
  have l1 : (x 1).val < 64 := (x 1).isLt
  have hb : (outR b h).emb x 0 = b := Fin.ext e0
  have hh : (⟨((outR b h).emb x 1).val / 64, by have : ((outR b h).emb x 1).val < 128 := ((outR b h).emb x 1).isLt; omega⟩ : Fin 2) = h := Fin.ext (by
    show ((outR b h).emb x 1).val / 64 = h.val
    rw [e1]; omega)
  have hx : blk ⟨((outR b h).emb x 1).val % 64, Nat.mod_lt _ (by decide)⟩ ((outR b h).emb x 2) = x := by
    funext a
    match a with
    | ⟨0, _⟩ => exact Fin.ext (by have : (x 0).val < 1 := (x 0).isLt; show 0 = (x 0).val; omega)
    | ⟨1, _⟩ => exact Fin.ext (by show ((outR b h).emb x 1).val % 64 = (x 1).val; rw [e1]; omega)
    | ⟨2, _⟩ => exact Fin.ext (by show ((outR b h).emb x 2).val = (x 2).val; simp [Rect.emb_apply])
  show w ((outR b h).emb x 0) ⟨((outR b h).emb x 1).val / 64, _⟩ (blk ⟨((outR b h).emb x 1).val % 64, _⟩ ((outR b h).emb x 2)) = _
  rw [hx]; exact (congrArg (fun b' => w b' _ x) hb).trans (congrArg (fun h' => w b h' x) hh)

/-- The store of one half into the result's staging buffer. -/
def storeOut (f : (cc0_stg3_0 : Ref sig .tc).ty.Contents (Elt F)) (b h : Fin 2) (w : FVec F S1x64x512 .f32) : (cc0_stg3_0 : Ref sig .tc).ty.Contents (Elt F) :=
  ((Memref.whole cc0_stg3_0).access (outR b h) : View sig .tc _ _ _).write (Elt F) f w Finset.univ

theorem storeOut_emb (f : (cc0_stg3_0 : Ref sig .tc).ty.Contents (Elt F)) (b h : Fin 2) (w : FVec F S1x64x512 .f32) (x : S1x64x512.Idx) :
    storeOut f b h w ((outR b h).emb x) = w x :=
  View.write_emb_of_mem (v := (Memref.whole cc0_stg3_0).access (outR b h)) f w (M := Finset.univ) (x := x) (Finset.mem_univ x)
theorem storeOut_off (f : (cc0_stg3_0 : Ref sig .tc).ty.Contents (Elt F)) (b h : Fin 2) (w : FVec F S1x64x512 .f32) {i : S2x128x512.Idx} (hi : i ∉ (outR b h).set) :
    storeOut f b h w i = f i :=
  View.write_of_not_mem (v := (Memref.whole cc0_stg3_0).access (outR b h)) f w Finset.univ
    (by intro h'; apply hi; have e := View.set_slice_whole cc0_stg3_0 (outR b h); rw [← e]; exact h')

theorem mem_outR (b h : Fin 2) (i : S2x128x512.Idx) : i ∈ (outR b h).set ↔ (i 0).val = b.val ∧ (i 1).val / 64 = h.val := by
  rw [Rect.mem_set_unit]
  have h1 : (i 1).val < 128 := (i 1).isLt
  constructor
  · intro hh; have a0 := hh 0; have a1 := hh 1; simp at a0 a1; omega
  · intro hh a
    have h2 := (i 2).isLt
    fin_cases a
    · simp; omega
    · simp; omega
    · simp; simpa using h2

/-- Four stores, one into each half, assemble the result whatever the buffer held. -/
theorem four_stores (f : (cc0_stg3_0 : Ref sig .tc).ty.Contents (Elt F)) (w : Fin 2 → Fin 2 → FVec F S1x64x512 .f32) :
    storeOut (storeOut (storeOut (storeOut f 0 0 (w 0 0)) 0 1 (w 0 1)) 1 0 (w 1 0)) 1 1 (w 1 1) = assemble w := by
  have key : ∀ (b h : Fin 2) (i : S2x128x512.Idx) (g : (cc0_stg3_0 : Ref sig .tc).ty.Contents (Elt F)), i ∈ (outR b h).set → storeOut g b h (w b h) i = assemble w i := by
    intro b h i g hi
    rw [← Rect.map_emb_univ] at hi
    obtain ⟨x, -, rfl⟩ := Finset.mem_map.mp hi
    rw [storeOut_emb, assemble_emb]
  have h0 := fun i : S2x128x512.Idx => show (i 0).val < 2 from (i 0).isLt
  have h1 := fun i : S2x128x512.Idx => show (i 1).val < 128 from (i 1).isLt
  funext i
  by_cases m11 : i ∈ (outR 1 1).set
  · exact key 1 1 i _ m11
  rw [storeOut_off _ _ _ _ m11]
  by_cases m10 : i ∈ (outR 1 0).set
  · exact key 1 0 i _ m10
  rw [storeOut_off _ _ _ _ m10]
  by_cases m01 : i ∈ (outR 0 1).set
  · exact key 0 1 i _ m01
  rw [storeOut_off _ _ _ _ m01]
  refine key 0 0 i _ ?_
  rw [mem_outR] at m11 m10 m01 ⊢
  have := h0 i; have := h1 i
  simp at m11 m10 m01 ⊢
  omega

end Cert.Exchange

end
-- ==== Proof.Exchange.Schedule.lean ====
/-
# Who signals, who copies, who waits, and what each landing hands over

Twenty-one semaphore cells on each of the four devices.

* The runtime's barrier cell. Both partners signal it by one, the device waits for two. The signal from `pa` hands over
  `pa`'s receive slots 0, 1, 6, 7, the one from `pb` hands over `pb`'s receive slots 2, 3, 4, 5. These are the slots the
  device's own transfers land in, so no transfer starts before its target has entered the kernel.
* Four local cells, one for each of the copies keys batch 0, values batch 0, keys batch 1, values batch 1. A landing hands back
  the filled scratch batch and the elements of the operand it was read from.
* Eight send cells. The completion of transfer `k` hands slot `k` of the send buffer back to the sender.
* Eight receive cells. The landing of transfer `k` hands the target slot `k` of its receive buffer, holding what slot `k` of
  its partner's send buffer held.

What the slots hold is written as functions of the launch memory: the first four are the device's own partial results, the last
four the sums after round one.
-/
module

public import proofs.«01_k».proof.Proof.Exchange.Slots

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the exchange: rounds over the machine's cells, with two duty names. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Contents -/

/-- The device's copies of the activations and of its blocks of the two projection matrices, as staged. -/
def xstg (c : Dev nD) : (cc0_stg0_0 : Ref sig .tc).ty.Contents (Elt F) := (win0_0.blk (0 : Fin 1)).view.read (Elt F) (m ((c : Thread nD τ).loc main_arg0))
def wqstg (c : Dev nD) : (cc0_stg1_0 : Ref sig .tc).ty.Contents (Elt F) := (win0_1.blk (0 : Fin 1)).view.read (Elt F) (m ((c : Thread nD τ).loc main_arg1))
def wostg (c : Dev nD) : (cc0_stg2_0 : Ref sig .tc).ty.Contents (Elt F) := (win0_2.blk (0 : Fin 1)).view.read (Elt F) (m ((c : Thread nD τ).loc main_arg4))

/-- The key and value operands in HBM. -/
def kAt (c : Dev nD) : FVec F S2x128x16x64 .f32 := m ((c : Thread nD τ).loc main_arg2)
def vAt (c : Dev nD) : FVec F S2x128x16x64 .f32 := m ((c : Thread nD τ).loc main_arg3)

/-- The activations of one batch, and the two projection blocks, as the kernel loads them. -/
def xb0 (c : Dev nD) : FVec F S1x128x512 .f32 :=
  (Memref.whole cc0_stg0_0).view.readAt (Elt F) (Rect.unit (s := S2x128x512) ![0, 0, 0] S1x128x512.size inb_S2x128x512_S1x128x512_0_0_0).toLoadRect (xstg m c)
def xb1 (c : Dev nD) : FVec F S1x128x512 .f32 :=
  (Memref.whole cc0_stg0_0).view.readAt (Elt F) (Rect.unit (s := S2x128x512) ![1, 0, 0] S1x128x512.size inb_S2x128x512_S1x128x512_1_0_0).toLoadRect (xstg m c)
def wq (c : Dev nD) : FVec F S512x256 .f32 :=
  (Memref.whole cc0_stg1_0).view.readAt (Elt F) (Rect.unit (s := S512x256) ![0, 0] S512x256.size inb_S512x256_S512x256_0_0).toLoadRect (wqstg m c)
def wo (c : Dev nD) : FVec F S256x512 .f32 :=
  (Memref.whole cc0_stg2_0).view.readAt (Elt F) (Rect.unit (s := S256x512) ![0, 0] S256x512.size inb_S256x512_S256x512_0_0).toLoadRect (wostg m c)

/-- Head `h` of batch `b` of the device's keys and of its values. -/
def kh (b : Fin 2) (h : Fin 4) (c : Dev nD) : FVec F S1x128x1x64 .f32 := headOf (heads (kAt m c) c) b h
def vh (b : Fin 2) (h : Fin 4) (c : Dev nD) : FVec F S1x128x1x64 .f32 := headOf (heads (vAt m c) c) b h

/-- The mask, the same on every device. -/
def msk : IVec S128x128 1 := k0_pay4 k0_pay2 (iota .tc S128x128 32 [1] iota_S128x128_d1_w32) 64#32 k0_pay3

/-- Batch 0: projected queries, the heads' outputs, the projected partial result and its two halves. -/
def q0 (c : Dev nD) : FVec F S128x256 .f32 := k0_pay5 (xb0 m c) (wq m c)
def o00 (c : Dev nD) : FVec F S128x64 .f32 := k0_pay6 msk (q0 m c) (kh m 0 0 c) (vh m 0 0 c)
def q01 (c : Dev nD) : FVec F S128x64 .f32 := k0_pay7 (q0 m c)
def o01 (c : Dev nD) : FVec F S128x64 .f32 := k0_pay8 msk (q01 m c) (kh m 0 1 c) (vh m 0 1 c)
def o02 (c : Dev nD) : FVec F S128x64 .f32 := k0_pay9 msk (q0 m c) (kh m 0 2 c) (vh m 0 2 c)
def q03 (c : Dev nD) : FVec F S128x64 .f32 := k0_pay10 (q0 m c)
def k03 (c : Dev nD) : FVec F S128x64 .f32 := k0_pay11 (kh m 0 3 c)
def p0 (c : Dev nD) : FVec F S128x512 .f32 := k0_pay12 msk (o00 m c) (o01 m c) (o02 m c) (q03 m c) (k03 m c) (vh m 0 3 c) (wo m c)
def s0 (c : Dev nD) : FVec F S1x64x512 .bf16 := k0_pay13 msk (o00 m c) (o01 m c) (o02 m c) (q03 m c) (k03 m c) (vh m 0 3 c) (wo m c)
def s1 (c : Dev nD) : FVec F S1x64x512 .bf16 := k0_pay14 msk (o00 m c) (o01 m c) (o02 m c) (q03 m c) (k03 m c) (vh m 0 3 c) (wo m c)

/-- Batch 1, likewise. -/
def q1 (c : Dev nD) : FVec F S128x256 .f32 := k0_pay15 (xb1 m c) (wq m c)
def o10 (c : Dev nD) : FVec F S128x64 .f32 := k0_pay16 msk (q1 m c) (kh m 1 0 c) (vh m 1 0 c)
def e11 (c : Dev nD) : FVec F S128x128 .f32 := k0_pay17 msk (q1 m c) (kh m 1 1 c)
def l11 (c : Dev nD) : FVec F S128 .f32 := k0_pay18 msk (q1 m c) (kh m 1 1 c)
def o11 (c : Dev nD) : FVec F S128x64 .f32 := k0_pay19 (e11 m c) (l11 m c) (vh m 1 1 c)
def o12 (c : Dev nD) : FVec F S128x64 .f32 := k0_pay20 msk (q1 m c) (kh m 1 2 c) (vh m 1 2 c)
def e13 (c : Dev nD) : FVec F S128x128 .f32 := k0_pay21 msk (q1 m c) (kh m 1 3 c)
def l13 (c : Dev nD) : FVec F S128x1 .f32 := k0_pay22 msk (q1 m c) (kh m 1 3 c)
def one : F .f32 := Scalar.ofBits .f32 0x3F800000#32
def p1 (c : Dev nD) : FVec F S128x512 .f32 := k0_pay23 (o10 m c) (o11 m c) (o12 m c) (e13 m c) (l13 m c) one (vh m 1 3 c) (wo m c)
def s2 (c : Dev nD) : FVec F S1x64x512 .bf16 := k0_pay24 (o10 m c) (o11 m c) (o12 m c) (e13 m c) (l13 m c) one (vh m 1 3 c) (wo m c)
def s3 (c : Dev nD) : FVec F S1x64x512 .bf16 := k0_pay25 (o10 m c) (o11 m c) (o12 m c) (e13 m c) (l13 m c) one (vh m 1 3 c) (wo m c)

/-- After round one: the sums kept, and the sums sent on in round two. -/
def h0 (c : Dev nD) : FVec F S64x512 .f32 := k0_pay26 (p0 m c)
def g0 (c : Dev nD) : FVec F S64x512 .bf16 := k0_pay27 (s0 m (pa c))
def a0 (c : Dev nD) : FVec F S64x512 .f32 := k0_pay28 (h0 m c) (g0 m c)
def s4 (c : Dev nD) : FVec F S1x64x512 .bf16 := k0_pay29 (h0 m c) (g0 m c)
def a1 (c : Dev nD) : FVec F S64x512 .f32 := k0_pay30 (p0 m c) (s1 m (pa c))
def s5 (c : Dev nD) : FVec F S1x64x512 .bf16 := k0_pay31 (p0 m c) (s1 m (pa c))
def a2 (c : Dev nD) : FVec F S64x512 .f32 := k0_pay32 (p1 m c) (s2 m (pb c))
def s6 (c : Dev nD) : FVec F S1x64x512 .bf16 := k0_pay33 (p1 m c) (s2 m (pb c))
def a3 (c : Dev nD) : FVec F S64x512 .f32 := k0_pay34 (p1 m c) (s3 m (pb c))
def s7 (c : Dev nD) : FVec F S1x64x512 .bf16 := k0_pay35 (p1 m c) (s3 m (pb c))

/-- What device `c` sends in slot `k`. -/
def snd (c : Dev nD) (k : Fin 8) : FVec F S1x64x512 .bf16 :=
  match k with | 0 => s0 m c | 1 => s1 m c | 2 => s2 m c | 3 => s3 m c | 4 => s4 m c | 5 => s5 m c | 6 => s6 m c | 7 => s7 m c

/-- After round two: the result's four halves. -/
def r00 (c : Dev nD) : FVec F S1x64x512 .f32 := k0_pay36 (a0 m c) (s4 m (pb c))
def r01 (c : Dev nD) : FVec F S1x64x512 .f32 := k0_pay37 (a1 m c) (s5 m (pb c))
def r10 (c : Dev nD) : FVec F S1x64x512 .f32 := k0_pay38 (a2 m c) (s6 m (pa c))
def r11 (c : Dev nD) : FVec F S1x64x512 .f32 := k0_pay1 (a3 m c) (s7 m (pa c))
def halves (c : Dev nD) (b h : Fin 2) : FVec F S1x64x512 .f32 :=
  match b, h with | 0, 0 => r00 m c | 0, 1 => r01 m c | 1, 0 => r10 m c | 1, 1 => r11 m c
/-- The kernel's result on device `c`. -/
def outAt (c : Dev nD) : FVec F S2x128x512 .f32 := assemble (halves m c)

/-- The send buffer with every slot filled, and the receive buffer with every slot landed. -/
def sendAll (c : Dev nD) : S8x64x512.Idx → Elt F .bf16 := gather (snd m c)
def landed (c : Dev nD) : S8x64x512.Idx → Elt F .bf16 := gather fun k => snd m (partner k c) k

omit [FloatOps F] in
theorem gather_congr (a b : Fin 8 → FVec F S1x64x512 .bf16) (k : Fin 8) (h : a k = b k) : ∀ i ∈ slotSet k, gather a i = gather b i := by
  intro i hi
  have hk : (⟨(i 0).val, (i 0).isLt⟩ : Fin 8) = k := Fin.ext ((mem_slotSet k i).mp hi)
  show a ⟨(i 0).val, (i 0).isLt⟩ _ = b ⟨(i 0).val, (i 0).isLt⟩ _
  rw [hk, h]

/-- What transfer `k` of device `c` leaves in its target's slot is what the target's contents say. -/
theorem land_eq (c : Dev nD) (k : Fin 8) (fd : (cc0_scratch3 : Ref sig .tc).ty.Contents (Elt F)) :
    ∀ i ∈ slotSet k, (commM k).view.write (Elt F) fd ((sendM k).view.read (Elt F) (sendAll m c)) Finset.univ i = landed m (partner k c) i := by
  intro i hi
  rw [land_comm k fd (sendAll m c) i hi]
  exact gather_congr _ _ k (by rw [partner_partner]) i hi

/-! ## Points-to facts of the parts -/

/-- Slot `k` of the send buffer, of the receive buffer; batch `b` of the key and of the value scratch; the operands' elements. -/
def sendPts (c : Dev nD) (k : Fin 8) (f : (cc0_scratch2 : Ref sig .tc).ty.Contents (Elt F)) : sProp 𝕄 := ((c : Thread nD τ).loc cc0_scratch2) ↦[slotSet k]{fullShare} f
def commPts (c : Dev nD) (k : Fin 8) (f : (cc0_scratch3 : Ref sig .tc).ty.Contents (Elt F)) : sProp 𝕄 := ((c : Thread nD τ).loc cc0_scratch3) ↦[slotSet k]{fullShare} f
def kPts (c : Dev nD) (b : Fin 2) (f : (cc0_scratch0 : Ref sig .tc).ty.Contents (Elt F)) : sProp 𝕄 := ((c : Thread nD τ).loc cc0_scratch0) ↦[kvSet b]{fullShare} f
def vPts (c : Dev nD) (b : Fin 2) (f : (cc0_scratch1 : Ref sig .tc).ty.Contents (Elt F)) : sProp 𝕄 := ((c : Thread nD τ).loc cc0_scratch1) ↦[kvSet b]{fullShare} f
def kSrcPts (c : Dev nD) (b : Fin 2) : sProp 𝕄 := ((c : Thread nD τ).loc main_arg2) ↦[srcSet b c]{fullShare} (kAt m c)
def vSrcPts (c : Dev nD) (b : Fin 2) : sProp 𝕄 := ((c : Thread nD τ).loc main_arg3) ↦[srcSet b c]{fullShare} (vAt m c)

omit [FloatOps F] in
instance sendPts_storable (c : Dev nD) (k f) : BI.Storable (upEmb : UEmb _ 𝕄) (sendPts (F := F) c k f) := by unfold sendPts; infer_instance
omit [FloatOps F] in
instance commPts_storable (c : Dev nD) (k f) : BI.Storable (upEmb : UEmb _ 𝕄) (commPts (F := F) c k f) := by unfold commPts; infer_instance
omit [FloatOps F] in
instance kPts_storable (c : Dev nD) (k f) : BI.Storable (upEmb : UEmb _ 𝕄) (kPts (F := F) c k f) := by unfold kPts; infer_instance
omit [FloatOps F] in
instance vPts_storable (c : Dev nD) (k f) : BI.Storable (upEmb : UEmb _ 𝕄) (vPts (F := F) c k f) := by unfold vPts; infer_instance
omit [FloatOps F] in
instance kSrcPts_storable (c : Dev nD) (k) : BI.Storable (upEmb : UEmb _ 𝕄) (kSrcPts (F := F) m c k) := by unfold kSrcPts; infer_instance
omit [FloatOps F] in
instance vSrcPts_storable (c : Dev nD) (k) : BI.Storable (upEmb : UEmb _ 𝕄) (vSrcPts (F := F) m c k) := by unfold vSrcPts; infer_instance

/-! ## Cells -/

/-- What a semaphore is to the kernel. -/
inductive Kind : Type
  | none | bar | loc (j : Fin 4) | snd (k : Fin 8) | rcv (k : Fin 8)
  deriving DecidableEq

/-- The DMA semaphores of the local copies, of the sends and of the receipts. -/
def locQ (j : Fin 4) : DmaSem sig := ⟨4 + j.val, by have := j.isLt; show 4 + j.val < 24; omega⟩
def sendQ (k : Fin 8) : DmaSem sig := ⟨4 + (4 + k.val), by have := k.isLt; show 4 + (4 + k.val) < 24; omega⟩
def recvQ (k : Fin 8) : DmaSem sig := ⟨4 + (12 + k.val), by have := k.isLt; show 4 + (12 + k.val) < 24; omega⟩
/-- The runtime's barrier semaphore of collective id 0. -/
abbrev barS : Sem sig := (SemArray.scalar (sig.barrier 0 rfl) : Sems sig S_).sem

def kindOf : SemLoc sig → Kind
  | .reg _ => .bar
  | .dma q => if h : q.val < 4 then .none else if h2 : q.val < 8 then .loc ⟨q.val - 4, by omega⟩ else if h3 : q.val < 16 then .snd ⟨q.val - 8, by omega⟩
      else .rcv ⟨q.val - 16, by have : q.val < 24 := q.isLt; omega⟩

theorem kind_bar : kindOf (.reg barS) = .bar := rfl
theorem kind_loc (j : Fin 4) : kindOf (.dma (locQ j)) = .loc j := by revert j; decide
theorem kind_snd (k : Fin 8) : kindOf (.dma (sendQ k)) = .snd k := by revert k; decide
theorem kind_rcv (k : Fin 8) : kindOf (.dma (recvQ k)) = .rcv k := by revert k; decide

abbrev barCell (c : Dev nD) : GSem nD τ sig := ((c : Thread nD τ), .reg barS)
abbrev locCell (c : Dev nD) (j : Fin 4) : GSem nD τ sig := ((c : Thread nD τ), .dma (locQ j))
abbrev sendCell (c : Dev nD) (k : Fin 8) : GSem nD τ sig := ((c : Thread nD τ), .dma (sendQ k))
abbrev recvCell (c : Dev nD) (k : Fin 8) : GSem nD τ sig := ((c : Thread nD τ), .dma (recvQ k))

/-- The credit of one slot's transfer and of one local copy. -/
abbrev N : ℕ := (commM 0).view.dmaCredit
abbrev NL : ℕ := (kM 0).view.dmaCredit
theorem N_pos : 0 < N := View.dmaCredit_pos _ (by decide)
theorem NL_pos : 0 < NL := View.dmaCredit_pos _ (by decide)

/-! ## The schedule -/

/-- Receive slots of device `c` for its first and for its second neighbour, whatever they hold. -/
def handA (c : Dev nD) : sProp 𝕄 := iprop((∃ f, commPts c 0 f) ∗ (∃ f, commPts c 1 f) ∗ (∃ f, commPts c 6 f) ∗ (∃ f, commPts c 7 f))
def handB (c : Dev nD) : sProp 𝕄 := iprop((∃ f, commPts c 2 f) ∗ (∃ f, commPts c 3 f) ∗ (∃ f, commPts c 4 f) ∗ (∃ f, commPts c 5 f))
/-- What local copy `j` hands back. -/
def locPay (c : Dev nD) (j : Fin 4) : sProp 𝕄 :=
  match j with
  | 0 => iprop(kPts c 0 (heads (kAt m c) c) ∗ kSrcPts m c 0)
  | 1 => iprop(vPts c 0 (heads (vAt m c) c) ∗ vSrcPts m c 0)
  | 2 => iprop(kPts c 1 (heads (kAt m c) c) ∗ kSrcPts m c 1)
  | 3 => iprop(vPts c 1 (heads (vAt m c) c) ∗ vSrcPts m c 1)

def dutiesOf : Kind → Finset Bool
  | .none => ∅ | .bar => Finset.univ | .loc _ => {false} | .snd _ => {false} | .rcv _ => {false}
def amountOf : Kind → ℕ
  | .none => 1 | .bar => 1 | .loc _ => NL | .snd _ => N | .rcv _ => N
def payOf (c : Dev nD) (d : Bool) : Kind → sProp 𝕄
  | .none => iprop(emp)
  | .bar => if d then handB (pb c) else handA (pa c)
  | .loc j => locPay m c j
  | .snd k => sendPts c k (sendAll m c)
  | .rcv k => commPts c k (landed m c)

/-- One round on every cell. -/
def Rd : Rounds.Schedule (GSem nD τ sig) Bool 𝕄 where
  duties g r := if r = 0 ∧ g.1.2 = .tc then dutiesOf (kindOf g.2) else ∅
  unitless _ := False
  amount g _ _ := amountOf (kindOf g.2)
  payload g _ d := payOf m g.1.1 d (kindOf g.2)
  amount_pos g _ _ _ := by
    cases kindOf g.2
    · exact Nat.one_pos
    · exact Nat.one_pos
    · exact NL_pos
    · exact N_pos
    · exact N_pos

instance Rd_payload_storable (g : GSem nD τ sig) (r : ℕ) (d : Bool) : BI.Storable (upEmb : UEmb _ 𝕄) ((Rd (F := F) m).payload g r d) := by
  show BI.Storable upEmb (payOf m g.1.1 d (kindOf g.2))
  cases kindOf g.2 with
  | none => show BI.Storable upEmb iprop(emp); infer_instance
  | bar => show BI.Storable upEmb (if d then handB (pb g.1.1) else handA (pa g.1.1)); unfold handA handB; split <;> infer_instance
  | loc j => show BI.Storable upEmb (locPay m g.1.1 j); fin_cases j <;> (unfold locPay; infer_instance)
  | snd k => show BI.Storable upEmb (sendPts g.1.1 k _); infer_instance
  | rcv k => show BI.Storable upEmb (commPts g.1.1 k _); infer_instance

section Tables
variable (c : Dev nD)

theorem duties_at (sm : SemLoc sig) : (Rd (F := F) m).duties ((c : Thread nD τ), sm) 0 = dutiesOf (kindOf sm) := by
  show (if (0 : ℕ) = 0 ∧ (c : Thread nD τ).2 = .tc then dutiesOf (kindOf sm) else ∅) = _
  exact if_pos ⟨rfl, rfl⟩
theorem duties_bar : (Rd (F := F) m).duties (barCell c) 0 = Finset.univ := duties_at m c _
theorem duties_loc (j : Fin 4) : (Rd (F := F) m).duties (locCell c j) 0 = {false} := by rw [duties_at, kind_loc]; rfl
theorem duties_snd (k : Fin 8) : (Rd (F := F) m).duties (sendCell c k) 0 = {false} := by rw [duties_at, kind_snd]; rfl
theorem duties_rcv (k : Fin 8) : (Rd (F := F) m).duties (recvCell c k) 0 = {false} := by rw [duties_at, kind_rcv]; rfl
theorem duties_later (g : GSem nD τ sig) : ∀ r, 1 ≤ r → (Rd (F := F) m).duties g r = ∅ := fun r hr => if_neg fun h => by omega

theorem amount_bar (d : Bool) : (Rd (F := F) m).amount (barCell c) 0 d = 1 := rfl
theorem amount_loc (j : Fin 4) (d : Bool) : (Rd (F := F) m).amount (locCell c j) 0 d = NL := by show amountOf (kindOf _) = _; rw [kind_loc]; rfl
theorem amount_snd (k : Fin 8) (d : Bool) : (Rd (F := F) m).amount (sendCell c k) 0 d = N := by show amountOf (kindOf _) = _; rw [kind_snd]; rfl
theorem amount_rcv (k : Fin 8) (d : Bool) : (Rd (F := F) m).amount (recvCell c k) 0 d = N := by show amountOf (kindOf _) = _; rw [kind_rcv]; rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_loc (j : Fin 4) : (Rd (F := F) m).expect (locCell c j) 0 = NL := by
  unfold Schedule.expect Schedule.amountOf; rw [duties_loc, Finset.sum_singleton, amount_loc]
theorem expect_snd (k : Fin 8) : (Rd (F := F) m).expect (sendCell c k) 0 = N := by
  unfold Schedule.expect Schedule.amountOf; rw [duties_snd, Finset.sum_singleton, amount_snd]
theorem expect_rcv (k : Fin 8) : (Rd (F := F) m).expect (recvCell c k) 0 = N := by
  unfold Schedule.expect Schedule.amountOf; rw [duties_rcv, Finset.sum_singleton, amount_rcv]

theorem payload_barA : (Rd (F := F) m).payload (barCell c) 0 false = handA (pa c) := rfl
theorem payload_barB : (Rd (F := F) m).payload (barCell c) 0 true = handB (pb c) := rfl
theorem payload_loc (j : Fin 4) (d : Bool) : (Rd (F := F) m).payload (locCell c j) 0 d = locPay m c j := by
  show payOf m c d (kindOf _) = _; rw [kind_loc]; rfl
theorem payload_snd (k : Fin 8) (d : Bool) : (Rd (F := F) m).payload (sendCell c k) 0 d = sendPts c k (sendAll m c) := by
  show payOf m c d (kindOf _) = _; rw [kind_snd]; rfl
theorem payload_rcv (k : Fin 8) (d : Bool) : (Rd (F := F) m).payload (recvCell c k) 0 d = commPts c k (landed m c) := by
  show payOf m c d (kindOf _) = _; rw [kind_rcv]; rfl

/-- What a wait for a whole round brings. -/
theorem rest_bar : bigSep ((Rd (F := F) m).duties (barCell c) 0 \ ∅) (fun d => (Rd (F := F) m).payload (barCell c) 0 d) = iprop(handA (pa c) ∗ handB (pb c)) := by
  rw [Finset.sdiff_empty, duties_bar, bigSep_univ_eq_bigSepL [false, true] (by decide) (by decide), bigSepL_cons_cons, bigSepL_singleton,
    payload_barA, payload_barB]
  rfl
theorem rest_loc (j : Fin 4) : bigSep ((Rd (F := F) m).duties (locCell c j) 0 \ ∅) (fun d => (Rd (F := F) m).payload (locCell c j) 0 d) = locPay m c j := by
  rw [Finset.sdiff_empty, duties_loc, bigSep_singleton, payload_loc]
theorem rest_snd (k : Fin 8) : bigSep ((Rd (F := F) m).duties (sendCell c k) 0 \ ∅) (fun d => (Rd (F := F) m).payload (sendCell c k) 0 d) = sendPts c k (sendAll m c) := by
  rw [Finset.sdiff_empty, duties_snd, bigSep_singleton, payload_snd]
theorem rest_rcv (k : Fin 8) : bigSep ((Rd (F := F) m).duties (recvCell c k) 0 \ ∅) (fun d => (Rd (F := F) m).payload (recvCell c k) 0 d) = commPts c k (landed m c) := by
  rw [Finset.sdiff_empty, duties_rcv, bigSep_singleton, payload_rcv]

end Tables

/-! ## What each device owes at launch, and the levels -/

/-- The receipts still owed for the transfers of a list of slots, summed so that the head is peeled last. -/
def owedL (c : Dev nD) : List (Fin 8) → CellTallies nD τ sig Unit
  | [] => 0
  | k :: l => owedL c l + tallyAt (recvCell (partner k c) k) () N

/-- At launch: every transfer's receipt and one unit to each partner's barrier cell. -/
def O₁ (c : Dev nD) : CellTallies nD τ sig Unit := owedL c [0, 1, 2, 3, 4, 5, 6, 7] + tallyAt (barCell (pb c)) () 1
def O₀ (c : Dev nD) : CellTallies nD τ sig Unit := O₁ c + tallyAt (barCell (pa c)) () 1

def L (g : GSem nD τ sig) : Finset Unit := if g.1.2 = .tc then {()} else ∅
/-- Barrier cells at 1, receipts of round one at 2, of round two at 3, everything else at 0. -/
def lvK : Kind → ℕ
  | .none => 0 | .bar => 1 | .loc _ => 0 | .snd _ => 0 | .rcv k => if k.val < 4 then 2 else 3
def lv (g : GSem nD τ sig) (_ : Unit) : ℕ := lvK (kindOf g.2)

theorem lvK_rcv_pos : ∀ k : Fin 8, 0 < lvK (.rcv k) := by decide

theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} {l : List (Fin 8)} {g : GSem nD τ sig} {u : Unit} (h : 0 < owedL c l g u) : ∃ k ∈ l, g = recvCell (partner k c) k := by
  induction l with
  | nil => exact absurd h (Nat.lt_irrefl 0)
  | cons k l ih =>
    unfold owedL at h
    rw [Pi.add_apply, Finsupp.add_apply, tallyAt_apply] at h
    by_cases hg : g = recvCell (partner k c) k ∧ u = ()
    · exact ⟨k, List.mem_cons_self, hg.1⟩
    · rw [if_neg hg, Nat.add_zero] at h
      obtain ⟨k', hk', e⟩ := ih h
      exact ⟨k', List.mem_cons_of_mem _ hk', e⟩

theorem O₀_pos {c : Dev nD} {g : GSem nD τ sig} {u : Unit} (h : 0 < O₀ c g u) :
    (∃ k, g = recvCell (partner k c) k) ∨ g = barCell (pb c) ∨ g = barCell (pa c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨k, -, e⟩ := owedL_pos (c := c) (l := [0, 1, 2, 3, 4, 5, 6, 7]) (g := g) (u := u) h
  exact hn.1 ⟨k, e⟩

/-- A wait at level `n` is allowed while only receipts above it are owed. -/
theorem mayWait_owed (c : Dev nD) (sm : SemLoc sig) (l : List (Fin 8)) (hl : ∀ k ∈ l, lvK (kindOf sm) < lvK (.rcv k)) :
    (levAts L lv : sProp 𝕄) ⊢ MayWait (c : Thread nD τ) sm () (owedL c l) :=
  MayOwe.of_cut (L := L) (lev := lv) (lvK (kindOf sm)) (fun p hp => by rw [Finset.mem_singleton.mp hp, L_tc]; exact Finset.mem_singleton_self _)
    (fun g u hg => by obtain ⟨k, hk, rfl⟩ := owedL_pos hg; rw [L_tc]; exact Finset.mem_singleton_self _)
    (fun p hp => by rw [Finset.mem_singleton.mp hp]; exact Nat.le_refl _)
    (fun g u hg => by obtain ⟨k, hk, rfl⟩ := owedL_pos hg; show _ < lvK (kindOf _); rw [kind_rcv]; exact hl k hk)

/-- The staging waits of the pipeline are below everything owed. -/
theorem mayWait_stage (c : Dev nD) (q : DmaSem sig) (hq : kindOf (.dma q) = .none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> (rw [L_tc]; exact Finset.mem_singleton_self _))
      (fun p hp => by rw [Finset.mem_singleton.mp hp]; show lvK (kindOf _) ≤ 0; rw [hq]; exact Nat.le_refl _)
      (fun g u hg => by
        rcases O₀_pos hg with ⟨k, rfl⟩ | rfl | rfl
        · show 0 < lvK (kindOf _); rw [kind_rcv]; exact lvK_rcv_pos k
        · exact Nat.one_pos
        · exact Nat.one_pos)
  · rw [MayWait_zero]; iintro -; iempintro

end Cert.Exchange

end
-- ==== Proof.Exchange.Steps.lean ====
/-
# One rule per effect of the kernel

The kernel's signals, waits, local copies, transfers, loads and stores, each as one rule at a symbolic device and a symbolic
slot. The invariants of all cells, that round 0 of each is reached, and the levels are one persistent fact (`world`); what the
device still owes is one fact (`ow`).
-/
module

public import proofs.«01_k».proof.Proof.Exchange.Schedule

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The index of a cell of a device: barrier, local copy, send, receipt. -/
abbrev CI : Type := Unit ⊕ (Fin 4 ⊕ (Fin 8 ⊕ Fin 8))
abbrev iBar : CI := .inl ()
abbrev iLoc (j : Fin 4) : CI := .inr (.inl j)
abbrev iSnd (k : Fin 8) : CI := .inr (.inr (.inl k))
abbrev iRcv (k : Fin 8) : CI := .inr (.inr (.inr k))
def csem : CI → SemLoc sig
  | .inl _ => .reg barS
  | .inr (.inl j) => .dma (locQ j)
  | .inr (.inr (.inl k)) => .dma (sendQ k)
  | .inr (.inr (.inr k)) => .dma (recvQ k)
def kcell (x : Dev nD × CI) : GSem nD τ sig := ((x.1 : Thread nD τ), csem x.2)

/-- Every cell's invariant under the names `K`, and that its round 0 is reached. -/
def records (K : Dev nD × CI → ℕ) : sProp 𝕄 :=
  iprop((bigSep Finset.univ fun x : Dev nD × CI => cellInv ER (Rd m) (K x) (kcell x))
    ∗ bigSep Finset.univ fun x : Dev nD × CI => reached ER (kcell x) 0)
instance records_persistent (K : Dev nD × CI → ℕ) : BI.Persistent (records m K) := by unfold records; infer_instance
/-- The records and the levels. -/
def world (K : Dev nD × CI → ℕ) : sProp 𝕄 := iprop(records m K ∗ levAts L lv)
instance world_persistent (K : Dev nD × CI → ℕ) : BI.Persistent (world m K) := by unfold world; infer_instance

variable (K : Dev nD × CI → ℕ)

theorem inv_at (x : Dev nD × CI) : (bigSep Finset.univ fun x : Dev nD × CI => (cellInv ER (Rd m) (K x) (kcell x) : sProp 𝕄)) ⊢ cellInv ER (Rd m) (K x) (kcell x) :=
  bigSep_elim (Finset.mem_univ x)
omit [FloatOps F] in
theorem reached_at (x : Dev nD × CI) : (bigSep Finset.univ fun x : Dev nD × CI => (reached ER (kcell x) 0 : sProp 𝕄)) ⊢ reached ER (kcell x) 0 :=
  bigSep_elim (Finset.mem_univ x)
theorem world_inv (x : Dev nD × CI) : world m K ⊢ cellInv ER (Rd m) (K x) (kcell x) := by
  unfold world records
  iintro ⟨⟨HI, -⟩, -⟩
  iapply (inv_at m K x); iexact HI
theorem world_reached (x : Dev nD × CI) : world m K ⊢ reached ER (kcell x) 0 := by
  unfold world records
  iintro ⟨⟨-, HR⟩, -⟩
  iapply (reached_at (F := F) x); iexact HR
theorem world_lev : world m K ⊢ levAts L lv := by
  unfold world
  iintro ⟨-, H⟩; iexact H

/-- What device `c` owes, its waits so far hidden. -/
def ow (c : Dev nD) (O : CellTallies nD τ sig Unit) : sProp 𝕄 := iprop(∃ W, owes (c : Thread nD τ) O W)

variable (c : Dev nD)

/-! ## Bundles of ghost state -/

/-- A local copy not yet started; started. -/
def locReady (j : Fin 4) : sProp 𝕄 := iprop(atPos ER (locCell c j) 0 ∅ 0 ∗ dutyTok ER (locCell c j) 0 false)
def locFlying (j : Fin 4) : sProp 𝕄 := iprop(atPos ER (locCell c j) 0 ∅ 0 ∗ cred (tallyAt (locCell c j) () NL))
/-- A transfer not yet started; started, its send side waited for, its receive side waited for. -/
def sendReady (k : Fin 8) : sProp 𝕄 :=
  iprop(atPos ER (sendCell c k) 0 ∅ 0 ∗ dutyTok ER (sendCell c k) 0 false ∗ dutyTok ER (recvCell (partner k c) k) 0 false)
def sendFlying (k : Fin 8) : sProp 𝕄 := iprop(atPos ER (sendCell c k) 0 ∅ 0 ∗ cred (tallyAt (sendCell c k) () N))
def recvReady (k : Fin 8) : sProp 𝕄 := iprop(atPos ER (recvCell c k) 0 ∅ 0 ∗ cred (tallyAt (recvCell c k) () N))
/-- The barrier's position, credit, and the two duties the device pays. -/
def barReady : sProp 𝕄 :=
  iprop(atPos ER (barCell c) 0 ∅ 0 ∗ cred (tallyAt (barCell c) () 2) ∗ dutyTok ER (barCell (pa c)) 0 false ∗ dutyTok ER (barCell (pb c)) 0 true)

/-! ## The handshake -/

/-- The first signal hands `pa` the four slots its transfers land in. -/
theorem step_signalA {n : Dev nD} (hn : n = pa c) {s : Sem sig} (hs : s = barS) {α : Type} {Q : α → sProp 𝕄} {k : PUnit → Prog (TpuEff nD τ sig (Elt F) Λ₀ .tc) α} :
    iprop(world m K ∗ ow c (O₀ c) ∗ dutyTok ER (barCell (pa c)) 0 false ∗ handA c)
      ⊢ iprop((ow c (O₁ c) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) s 1) k) Q) := by
  subst hn hs
  unfold ow
  iintro ⟨#Hw, ⟨%W, HO⟩, Ht, Hp⟩ Hk
  iapply (Rounds.wp_signal 𝒱₀ ER (Rd m) (c : Thread nD τ) none (dst := (pa c : Thread nD τ)) (κ := K (pa c, iBar))
      (d := false) (by rw [duties_bar]; exact Finset.mem_univ _) (amount_bar m (pa c) false) () (O₁ c) rfl) $$ [HO Ht Hp]
  · isplitr; · iapply (world_inv m K (pa c, iBar)); iexact Hw
    isplitl [HO]; · iexact HO
    isplitl [Ht]; · iexact Ht
    isplitl [Hp]; · rw [payload_barA, pa_pa]; iexact Hp
    iapply (world_reached m K (pa c, iBar)); iexact Hw
  iintro HO
  iapply Hk
  iexists W; iexact HO

/-- The second signal hands `pb` the other four. -/
theorem step_signalB {n : Dev nD} (hn : n = pb c) {s : Sem sig} (hs : s = barS) {α : Type} {Q : α → sProp 𝕄} {k : PUnit → Prog (TpuEff nD τ sig (Elt F) Λ₀ .tc) α} :
    iprop(world m K ∗ ow c (O₁ c) ∗ dutyTok ER (barCell (pb c)) 0 true ∗ handB c)
      ⊢ iprop((ow c (owedL c [0, 1, 2, 3, 4, 5, 6, 7]) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) s 1) k) Q) := by
  subst hn hs
  unfold ow
  iintro ⟨#Hw, ⟨%W, HO⟩, Ht, Hp⟩ Hk
  iapply (Rounds.wp_signal 𝒱₀ ER (Rd m) (c : Thread nD τ) none (dst := (pb c : Thread nD τ)) (κ := K (pb c, iBar))
      (d := true) (by rw [duties_bar]; exact Finset.mem_univ _) (amount_bar m (pb c) true) () (owedL c [0, 1, 2, 3, 4, 5, 6, 7]) rfl) $$ [HO Ht Hp]
  · isplitr; · iapply (world_inv m K (pb c, iBar)); iexact Hw
    isplitl [HO]; · iexact HO
    isplitl [Ht]; · iexact Ht
    isplitl [Hp]; · rw [payload_barB, pb_pb]; iexact Hp
    iapply (world_reached m K (pb c, iBar)); iexact Hw
  iintro HO
  iapply Hk
  iexists W; iexact HO

/-- A wait for the whole round of a cell: its payload, and the cell closed, its counter at zero. -/
theorem step_wait {w : TpuEff nD τ sig (Elt F) Λ₀ .tc PUnit} (i : CI) {k' : ℕ} {l : List (Fin 8)} (hl : ∀ k ∈ l, lvK (kindOf (csem i)) < lvK (.rcv k))
    (hw : ∀ R : PUnit → sProp 𝕄, wpE (defs₀ (F := F)) 𝒱₀ (c : Thread nD τ) none Set.univ w R = waitSpec (c : Thread nD τ) Set.univ (csem i) k' R)
    (hk : k' = (Rd (F := F) m).expect (kcell (c, i)) 0) {α : Type} {Q : α → sProp 𝕄} {k : PUnit → Prog (TpuEff nD τ sig (Elt F) Λ₀ .tc) α} :
    iprop(world m K ∗ ow c (owedL c l) ∗ atPos ER (kcell (c, i)) 0 ∅ 0 ∗ cred (tallyAt (kcell (c, i)) () k'))
      ⊢ iprop((ow c (owedL c l) ∗ semVal (kcell (c, i)) 0
            ∗ bigSep ((Rd (F := F) m).duties (kcell (c, i)) 0 \ ∅) (fun d => (Rd (F := F) m).payload (kcell (c, i)) 0 d)
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold ow
  iintro ⟨#Hw, ⟨%W, HO⟩, Hat, Hc⟩ Hk
  iapply (Rounds.wp_wait_rest_token 𝒱₀ ER (Rd m) (c : Thread nD τ) none (κ := K (c, i)) hw (Set.mem_univ _) () (O := owedL c l) (W := W)
      (R := 0) (m := 0) (T := ∅) ((Nat.zero_add _).trans hk)) $$ [HO Hat Hc]
  · isplitr; · iapply (world_inv m K (c, i)); iexact Hw
    isplitl [Hc]; · iexact Hc
    isplitl [HO]; · iexact HO
    isplitr; · iapply (mayWait_owed c (csem i) l hl); iapply (world_lev m K); iexact Hw
    iexact Hat
  iintro ⟨HO, Hat, -, Hpay⟩
  imod (Rounds.cell_close ER (Rd m) (Set.mem_univ (K (c, i))) (fun h => h) (R := 0 + 1) (duties_later m (kcell (c, i)))) $$ [Hat] with Hz
  · isplitr; · iapply (world_inv m K (c, i)); iexact Hw
    iexact Hat
  iapply Hk
  isplitl [HO]; · iexists _; iexact HO
  isplitl [Hz]; · iexact Hz
  iexact Hpay

/-- The wait for both partners: the slots the device's transfers land in. -/
theorem step_waitBar {s : Sem sig} (hs : s = barS) {α : Type} {Q : α → sProp 𝕄} {k : PUnit → Prog (TpuEff nD τ sig (Elt F) Λ₀ .tc) α} :
    iprop(world m K ∗ ow c (owedL c [0, 1, 2, 3, 4, 5, 6, 7]) ∗ atPos ER (barCell c) 0 ∅ 0 ∗ cred (tallyAt (barCell c) () 2))
      ⊢ iprop((ow c (owedL c [0, 1, 2, 3, 4, 5, 6, 7]) ∗ semVal (barCell c) 0 ∗ handA (pa c) ∗ handB (pb c)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s 2) k) Q) := by
  subst hs
  rw [← rest_bar m c]
  exact step_wait m K c iBar (by decide) (wpE_semWait_eq 𝒱₀ (c : Thread nD τ) none Set.univ) (expect_bar m c).symm

/-- The wait for local copy `j`. -/
theorem step_waitLoc (j : Fin 4) (l : List (Fin 8)) (q : DmaSem sig) (hq : q = locQ j) {s : Shape} {sp : Space} {src : Memref sig .tc sp s .f32} {dst : Memref sig .tc .vmem s .f32}
    {h1 h2} (hN : dst.view.dmaCredit = NL) {α : Type} {Q : α → sProp 𝕄} {k : PUnit → Prog (TpuEff nD τ sig (Elt F) Λ₀ .tc) α} :
    iprop(world m K ∗ ow c (owedL c l) ∗ locFlying c j)
      ⊢ iprop((ow c (owedL c l) ∗ semVal (locCell c j) 0 ∗ locPay m c j
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hq
  rw [← rest_loc m c j]
  unfold locFlying
  rw [← hN]
  exact step_wait m K c (iLoc j) (fun k _ => by show lvK (kindOf (.dma (locQ j))) < _; rw [kind_loc]; exact lvK_rcv_pos k)
    (wpE_waitDma2_eq 𝒱₀ (c : Thread nD τ) none Set.univ) (hN.trans (expect_loc m c j).symm)

/-- The wait for the completion of the device's own transfer `k`: its send slot back. -/
theorem step_waitSend (j : Fin 8) (l : List (Fin 8)) (q : DmaSem sig) (hq : q = sendQ j) {src dst : Memref sig .tc .vmem S64x512 .bf16}
    {h1 h2} (hN : dst.view.dmaCredit = N) {α : Type} {Q : α → sProp 𝕄} {k : PUnit → Prog (TpuEff nD τ sig (Elt F) Λ₀ .tc) α} :
    iprop(world m K ∗ ow c (owedL c l) ∗ sendFlying c j)
      ⊢ iprop((ow c (owedL c l) ∗ semVal (sendCell c j) 0 ∗ sendPts c j (sendAll m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hq
  rw [← rest_snd m c j]
  unfold sendFlying
  rw [← hN]
  exact step_wait m K c (iSnd j) (fun k _ => by show lvK (kindOf (.dma (sendQ j))) < _; rw [kind_snd]; exact lvK_rcv_pos k)
    (wpE_waitDma2_eq 𝒱₀ (c : Thread nD τ) none Set.univ) (hN.trans (expect_snd m c j).symm)

/-- The wait for the partner's transfer `k`: the slot it landed in, holding what the partner sent. -/
theorem step_waitRecv (j : Fin 8) (l : List (Fin 8)) (hl : ∀ k ∈ l, lvK (.rcv j) < lvK (.rcv k)) (q : DmaSem sig) (hq : q = recvQ j)
    {src dst : Memref sig .tc .vmem S64x512 .bf16} {h1 h2} (hN : dst.view.dmaCredit = N) {α : Type} {Q : α → sProp 𝕄} {k : PUnit → Prog (TpuEff nD τ sig (Elt F) Λ₀ .tc) α} :
    iprop(world m K ∗ ow c (owedL c l) ∗ recvReady c j)
      ⊢ iprop((ow c (owedL c l) ∗ semVal (recvCell c j) 0 ∗ commPts c j (landed m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hq
  rw [← rest_rcv m c j]
  unfold recvReady
  rw [← hN]
  exact step_wait m K c (iRcv j) (fun k hk => by show lvK (kindOf (.dma (recvQ j))) < _; rw [kind_rcv]; exact hl k hk)
    (wpE_waitDma2_eq 𝒱₀ (c : Thread nD τ) none Set.univ) (hN.trans (expect_rcv m c j).symm)

/-! ## Starting transfers -/

/-- Local copy `j`, whose landing makes the payload. -/
theorem step_copy (j : Fin 4) {s : Shape} {src : Memref sig .tc .hbm s .f32} {dst : Memref sig .tc .vmem s .f32} (q : DmaSem sig) (hq : q = locQ j)
    {hsrc hdst hsem} (hN : dst.view.dmaCredit = NL) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ (locPay m c j : sProp 𝕄)) {α : Type} {Q : α → sProp 𝕄} {k : PUnit → Prog (TpuEff nD τ sig (Elt F) Λ₀ .tc) α} :
    iprop(world m K ∗ locReady c j ∗ (src.view.loc (c : Thread nD τ) ↦[src.view.set]{fullShare} fs) ∗ (dst.view.loc (c : Thread nD τ) ↦[dst.view.set]{fullShare} fd))
      ⊢ iprop((locFlying c j -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma q) hsrc hdst hsem) k) Q) := by
  subst hq
  unfold locReady locFlying
  iintro ⟨#Hw, ⟨Hat, Ht⟩, Hs, Hd⟩ Hk
  iapply (Rounds.wp_copy_pointsTo 𝒱₀ ER (Rd m) (c : Thread nD τ) none (κ := K (c, iLoc j)) (r := 0) (d := false) (fs := fs) (fd := fd)
      (by rw [duties_loc]; exact Finset.mem_singleton_self _) () NL (show dst.view.amount (.dma (locQ j)) = NL from hN) (amount_loc m c j false) (by rw [payload_loc]; exact hpay)) $$ [Ht Hs Hd]
  · isplitr; · iapply (world_inv m K (c, iLoc j)); iexact Hw
    isplitl [Hs]; · iexact Hs
    isplitl [Hd]; · iexact Hd
    isplitl [Ht]; · iexact Ht
    iapply (world_reached m K (c, iLoc j)); iexact Hw
  iintro Hc
  iapply Hk
  isplitl [Hat] <;> iassumption

theorem kM_credit (b : Fin 2) : (kM b).view.dmaCredit = NL := by revert b; decide
theorem vM_credit (b : Fin 2) : (vM b).view.dmaCredit = NL := by revert b; decide

/-- A copy of one batch of the keys, and of the values. -/
theorem step_copyK (b : Fin 2) (j : Fin 4) (hj : locPay m c j = iprop(kPts c b (heads (kAt m c) c) ∗ kSrcPts m c b))
    {src : Memref sig .tc .hbm S128x4x64 .f32} (hs : src = kSrc b c) {dst : Memref sig .tc .vmem S128x4x64 .f32} (hd : dst = kM b)
    (q : DmaSem sig) (hq : q = locQ j) {hsrc hdst hsem} {α : Type} {Q : α → sProp 𝕄} {k : PUnit → Prog (TpuEff nD τ sig (Elt F) Λ₀ .tc) α} :
    iprop(world m K ∗ locReady c j ∗ kSrcPts m c b ∗ (∃ f, kPts c b f))
      ⊢ iprop((locFlying c j -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma q) hsrc hdst hsem) k) Q) := by
  subst hs hd
  iintro ⟨#Hw, Hr, Hs, ⟨%fd, Hd⟩⟩ Hk
  iapply (step_copy m K c j (src := kSrc b c) (dst := kM b) q hq (kM_credit b) (kAt m c) fd (by
    rw [hj, kM_set, kSrc_set]; unfold kPts kSrcPts
    exact sep_mono_left (Entails.of_eq (pointsTo_congr (land_k (kAt m c) b c fd))))) $$ [Hr Hs Hd]
  · isplitr; · iexact Hw
    isplitl [Hr]; · iexact Hr
    rw [kM_set, kSrc_set]; unfold kPts kSrcPts
    isplitl [Hs]; · iexact Hs
    iexact Hd
  iexact Hk

theorem step_copyV (b : Fin 2) (j : Fin 4) (hj : locPay m c j = iprop(vPts c b (heads (vAt m c) c) ∗ vSrcPts m c b))
    {src : Memref sig .tc .hbm S128x4x64 .f32} (hs : src = vSrc b c) {dst : Memref sig .tc .vmem S128x4x64 .f32} (hd : dst = vM b)
    (q : DmaSem sig) (hq : q = locQ j) {hsrc hdst hsem} {α : Type} {Q : α → sProp 𝕄} {k : PUnit → Prog (TpuEff nD τ sig (Elt F) Λ₀ .tc) α} :
    iprop(world m K ∗ locReady c j ∗ vSrcPts m c b ∗ (∃ f, vPts c b f))
      ⊢ iprop((locFlying c j -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma q) hsrc hdst hsem) k) Q) := by
  subst hs hd
  iintro ⟨#Hw, Hr, Hs, ⟨%fd, Hd⟩⟩ Hk
  iapply (step_copy m K c j (src := vSrc b c) (dst := vM b) q hq (vM_credit b) (vAt m c) fd (by
    rw [hj, vM_set, vSrc_set]; unfold vPts vSrcPts
    exact sep_mono_left (Entails.of_eq (pointsTo_congr (land_v (vAt m c) b c fd))))) $$ [Hr Hs Hd]
  · isplitr; · iexact Hw
    isplitl [Hr]; · iexact Hr
    rw [vM_set, vSrc_set]; unfold vPts vSrcPts
    isplitl [Hs]; · iexact Hs
    iexact Hd
  iexact Hk

theorem sendM_credit (j : Fin 8) : (sendM j).view.dmaCredit = N := by revert j; decide
theorem commM_credit (j : Fin 8) : (commM j).view.dmaCredit = N := by revert j; decide

/-- Transfer `k` to its partner, the next of those owed. -/
theorem step_send (j : Fin 8) (l : List (Fin 8)) {n : Dev nD} (hn : n = partner j c) {src : Memref sig .tc .vmem S64x512 .bf16} (hs : src = sendM j)
    {dst : Memref sig (Dev.tc n : Thread nD τ).2.kind .vmem S64x512 .bf16} (hd : dst = commM j) {qs qr : DmaSem sig} (hqs : qs = sendQ j) (hqr : qr = recvQ j)
    {hsc hsrc hdst hsem} {α : Type} {Q : α → sProp 𝕄} {k : PUnit → Prog (TpuEff nD τ sig (Elt F) Λ₀ .tc) α} :
    iprop(world m K ∗ ow c (owedL c (j :: l)) ∗ sendReady c j ∗ sendPts c j (sendAll m c) ∗ (∃ f, commPts (partner j c) j f))
      ⊢ iprop((ow c (owedL c l) ∗ sendFlying c j -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma qs) hsc) (.dma qr) hsrc hdst hsem) k) Q) := by
  subst hn hs hd hqs hqr
  unfold ow sendReady sendFlying sendPts commPts
  iintro ⟨#Hw, ⟨%W, HO⟩, ⟨Hat, Ht, Htp⟩, Hs, ⟨%fd, Hd⟩⟩ Hk
  iapply (Rounds.wp_send_pointsTo 𝒱₀ ER (Rd m) (c : Thread nD τ) none (κ₁ := K (c, iSnd j)) (κ₂ := K (partner j c, iRcv j))
    (r₁ := 0) (r₂ := 0) (d₁ := false) (d₂ := false) (fs := sendAll m c) (fd := fd) (q := fullShare)
    (by rw [duties_snd]; exact Finset.mem_singleton_self _) (by rw [duties_rcv]; exact Finset.mem_singleton_self _)
    () () N (show (commM j).view.amount (.dma (recvQ j)) = N from commM_credit j) (amount_snd m c j false) (amount_rcv m (partner j c) j false) (owedL c l) rfl (W := W)
    (by rw [payload_snd, sendM_set]; exact BI.Entails.refl _)
    (by rw [payload_rcv, commM_set]; exact Entails.of_eq (pointsTo_congr (land_eq m c j fd)))) $$ [HO Ht Htp Hs Hd]
  · isplitr; · iapply (world_inv m K (c, iSnd j)); iexact Hw
    isplitr; · iapply (world_inv m K (partner j c, iRcv j)); iexact Hw
    rw [sendM_set, commM_set]
    isplitl [Hs]; · iexact Hs
    isplitl [Hd]; · iexact Hd
    isplitl [HO]; · iexact HO
    isplitl [Ht]; · iexact Ht
    isplitr; · iapply (world_reached m K (c, iSnd j)); iexact Hw
    isplitl [Htp]; · iexact Htp
    iapply (world_reached m K (partner j c, iRcv j)); iexact Hw
  iintro ⟨Hc, HO⟩
  iapply Hk
  isplitl [HO]; · iexists W; iexact HO
  isplitl [Hat] <;> iassumption

/-! ## Loads and stores -/

/-- The kernel reads slot `k` of the send buffer, drops what it read, and fills the slot. -/
theorem step_fill (j : Fin 8) {r r' : Rect S8x64x512} (hr : r = slotR j) (hr' : r' = slotR j) {w : r'.shape.Idx → Elt F .bf16} (hw : HEq w (snd m c j))
    {hl hx hm} {α : Type} {Q : α → sProp 𝕄} {k : PUnit → Prog (TpuEff nD τ sig (Elt F) Λ₀ .tc) α} :
    iprop(∃ f, sendPts c j f)
      ⊢ iprop((sendPts c j (sendAll m c) -∗ wp frame (wpE (defs₀ (F := F)) 𝒱₀ (c : Thread nD τ) none) Set.univ (k ⟨⟩) Q)
        -∗ wp frame (wpE (defs₀ (F := F)) 𝒱₀ (c : Thread nD τ) none) Set.univ
            (.op (.load (Memref.whole cc0_scratch2) r.toLoadRect hl) fun _ => .op (.store (Memref.whole cc0_scratch2) r' w Finset.univ hx hm) k) Q) := by
  subst hr hr'
  obtain rfl := eq_of_heq hw
  unfold sendPts
  iintro ⟨%f, H⟩ Hk
  iapply (wp_load 𝒱₀ (c : Thread nD τ) none Set.univ (m := Memref.whole cc0_scratch2) (r := (slotR j).toLoadRect) (S := slotSet j) (by rw [send_reads])) $$ H
  iintro H
  iapply (wp_store 𝒱₀ (c : Thread nD τ) none Set.univ (m := Memref.whole cc0_scratch2) (r := slotR j) (Mk := Finset.univ) (S := slotSet j) (by rw [send_access])) $$ H
  iintro H
  iapply Hk
  iapply (Entails.of_eq (pointsTo_congr (ℓ := (c : Thread nD τ).loc cc0_scratch2) (store_send (snd m c) j f))); iexact H

/-- Slot `k` of the receive buffer read after its landing. -/
theorem step_loadComm (j : Fin 8) {r : Rect S8x64x512} (hr : r = slotR j) {hl} {α : Type} {Q : α → sProp 𝕄} {k : (r.shape.Idx → Elt F .bf16) → Prog (TpuEff nD τ sig (Elt F) Λ₀ .tc) α}
    (w : r.shape.Idx → Elt F .bf16) (hw : HEq w (snd m (partner j c) j)) :
    commPts c j (landed m c)
      ⊢ iprop((commPts c j (landed m c) -∗ wp frame (wpE (defs₀ (F := F)) 𝒱₀ (c : Thread nD τ) none) Set.univ (k w) Q)
        -∗ wp frame (wpE (defs₀ (F := F)) 𝒱₀ (c : Thread nD τ) none) Set.univ (.op (.load (Memref.whole cc0_scratch3) r.toLoadRect hl) k) Q) := by
  subst hr
  obtain rfl := eq_of_heq hw
  unfold commPts
  rw [← load_comm (fun k => snd m (partner k c) k) j]
  exact wp_load 𝒱₀ (c : Thread nD τ) none Set.univ (m := Memref.whole cc0_scratch3) (by rw [comm_reads])

/-- One head of the keys, and of the values, read after the copy. -/
theorem step_loadK (b : Fin 2) (h : Fin 4) {r : Rect S2x128x4x64} (hr : r = headR b h) {hl} {α : Type} {Q : α → sProp 𝕄} {k : (r.shape.Idx → Elt F .f32) → Prog (TpuEff nD τ sig (Elt F) Λ₀ .tc) α}
    (w : r.shape.Idx → Elt F .f32) (hw : HEq w (kh m b h c)) :
    kPts c b (heads (kAt m c) c)
      ⊢ iprop((kPts c b (heads (kAt m c) c) -∗ wp frame (wpE (defs₀ (F := F)) 𝒱₀ (c : Thread nD τ) none) Set.univ (k w) Q)
        -∗ wp frame (wpE (defs₀ (F := F)) 𝒱₀ (c : Thread nD τ) none) Set.univ (.op (.load (Memref.whole cc0_scratch0) r.toLoadRect hl) k) Q) := by
  subst hr
  obtain rfl := eq_of_heq hw
  unfold kPts
  exact wp_load 𝒱₀ (c : Thread nD τ) none Set.univ (m := Memref.whole cc0_scratch0) (k_reads b h)
theorem step_loadV (b : Fin 2) (h : Fin 4) {r : Rect S2x128x4x64} (hr : r = headR b h) {hl} {α : Type} {Q : α → sProp 𝕄} {k : (r.shape.Idx → Elt F .f32) → Prog (TpuEff nD τ sig (Elt F) Λ₀ .tc) α}
    (w : r.shape.Idx → Elt F .f32) (hw : HEq w (vh m b h c)) :
    vPts c b (heads (vAt m c) c)
      ⊢ iprop((vPts c b (heads (vAt m c) c) -∗ wp frame (wpE (defs₀ (F := F)) 𝒱₀ (c : Thread nD τ) none) Set.univ (k w) Q)
        -∗ wp frame (wpE (defs₀ (F := F)) 𝒱₀ (c : Thread nD τ) none) Set.univ (.op (.load (Memref.whole cc0_scratch1) r.toLoadRect hl) k) Q) := by
  subst hr
  obtain rfl := eq_of_heq hw
  unfold vPts
  exact wp_load 𝒱₀ (c : Thread nD τ) none Set.univ (m := Memref.whole cc0_scratch1) (v_reads b h)

/-- The staged operands, and the result's staging buffer. -/
def xPts : sProp 𝕄 := ((c : Thread nD τ).loc cc0_stg0_0) ↦{fullShare} (xstg m c)
def wqPts : sProp 𝕄 := ((c : Thread nD τ).loc cc0_stg1_0) ↦{fullShare} (wqstg m c)
def woPts : sProp 𝕄 := ((c : Thread nD τ).loc cc0_stg2_0) ↦{fullShare} (wostg m c)
def outPts (f : (cc0_stg3_0 : Ref sig .tc).ty.Contents (Elt F)) : sProp 𝕄 := ((c : Thread nD τ).loc cc0_stg3_0) ↦{fullShare} f

theorem step_loadX {r : LoadRect S2x128x512} {hl} {α : Type} {Q : α → sProp 𝕄} {k : (r.shape.Idx → Elt F .f32) → Prog (TpuEff nD τ sig (Elt F) Λ₀ .tc) α} :
    xPts m c
      ⊢ iprop((xPts m c -∗ wp frame (wpE (defs₀ (F := F)) 𝒱₀ (c : Thread nD τ) none) Set.univ (k ((Memref.whole cc0_stg0_0).view.readAt (Elt F) r (xstg m c))) Q)
        -∗ wp frame (wpE (defs₀ (F := F)) 𝒱₀ (c : Thread nD τ) none) Set.univ (.op (.load (Memref.whole cc0_stg0_0) r hl) k) Q) :=
  wp_load 𝒱₀ (c : Thread nD τ) none Set.univ (m := Memref.whole cc0_stg0_0) (Finset.subset_univ _)
theorem step_loadWq {r : LoadRect S512x256} {hl} {α : Type} {Q : α → sProp 𝕄} {k : (r.shape.Idx → Elt F .f32) → Prog (TpuEff nD τ sig (Elt F) Λ₀ .tc) α} :
    wqPts m c
      ⊢ iprop((wqPts m c -∗ wp frame (wpE (defs₀ (F := F)) 𝒱₀ (c : Thread nD τ) none) Set.univ (k ((Memref.whole cc0_stg1_0).view.readAt (Elt F) r (wqstg m c))) Q)
        -∗ wp frame (wpE (defs₀ (F := F)) 𝒱₀ (c : Thread nD τ) none) Set.univ (.op (.load (Memref.whole cc0_stg1_0) r hl) k) Q) :=
  wp_load 𝒱₀ (c : Thread nD τ) none Set.univ (m := Memref.whole cc0_stg1_0) (Finset.subset_univ _)
theorem step_loadWo {r : LoadRect S256x512} {hl} {α : Type} {Q : α → sProp 𝕄} {k : (r.shape.Idx → Elt F .f32) → Prog (TpuEff nD τ sig (Elt F) Λ₀ .tc) α} :
    woPts m c
      ⊢ iprop((woPts m c -∗ wp frame (wpE (defs₀ (F := F)) 𝒱₀ (c : Thread nD τ) none) Set.univ (k ((Memref.whole cc0_stg2_0).view.readAt (Elt F) r (wostg m c))) Q)
        -∗ wp frame (wpE (defs₀ (F := F)) 𝒱₀ (c : Thread nD τ) none) Set.univ (.op (.load (Memref.whole cc0_stg2_0) r hl) k) Q) :=
  wp_load 𝒱₀ (c : Thread nD τ) none Set.univ (m := Memref.whole cc0_stg2_0) (Finset.subset_univ _)

/-- The kernel reads one half of the result's buffer, drops what it read, and stores the half. -/
theorem step_out (b h : Fin 2) {r r' : Rect S2x128x512} (hr : r = outR b h) (hr' : r' = outR b h) {w : r'.shape.Idx → Elt F .f32} (v : FVec F S1x64x512 .f32) (hw : HEq w v)
    (f : (cc0_stg3_0 : Ref sig .tc).ty.Contents (Elt F)) {hl hx hm} {α : Type} {Q : α → sProp 𝕄} {k : PUnit → Prog (TpuEff nD τ sig (Elt F) Λ₀ .tc) α} :
    outPts c f
      ⊢ iprop((outPts c (storeOut f b h v) -∗ wp frame (wpE (defs₀ (F := F)) 𝒱₀ (c : Thread nD τ) none) Set.univ (k ⟨⟩) Q)
        -∗ wp frame (wpE (defs₀ (F := F)) 𝒱₀ (c : Thread nD τ) none) Set.univ
            (.op (.load (Memref.whole cc0_stg3_0) r.toLoadRect hl) fun _ => .op (.store (Memref.whole cc0_stg3_0) r' w Finset.univ hx hm) k) Q) := by
  subst hr hr'
  obtain rfl := eq_of_heq hw
  unfold outPts
  iintro H Hk
  iapply (wp_load 𝒱₀ (c : Thread nD τ) none Set.univ (m := Memref.whole cc0_stg3_0) (r := (outR b h).toLoadRect) (S := Finset.univ) (Finset.subset_univ _)) $$ H
  iintro H
  iapply (wp_store 𝒱₀ (c : Thread nD τ) none Set.univ (m := Memref.whole cc0_stg3_0) (r := outR b h) (Mk := Finset.univ) (S := Finset.univ) (Finset.subset_univ _)) $$ H
  iintro H
  iapply Hk
  iexact H

end Cert.Exchange

end
-- ==== Proof.Exchange.PartsA.lean ====
/-
# The kernel's first parts: local copies, handshake, first batch
-/
module

public import proofs.«01_k».proof.Proof.Exchange.Steps

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- Three of the four local copies are started. -/
theorem part1 {Kt : _ → sProp 𝕄}  :
    iprop(world m K ∗ locReady c 0 ∗ kSrcPts m c 0 ∗ (∃ f, kPts c 0 f) ∗ locReady c 1 ∗ vSrcPts m c 0 ∗ (∃ f, vPts c 0 f) ∗ locReady c 2 ∗ kSrcPts m c 1 ∗ (∃ f, kPts c 1 f))
      ⊢ iprop((∀ v4 v5, (locFlying c 0 ∗ locFlying c 1 ∗ locFlying c 2) -∗ Kt ⟨c, v4, v5⟩) -∗ wp frame (wpE (defs₀ (F := F)) 𝒱₀ (c : Thread nD τ) none) Set.univ
        (k0_part1 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 ) Kt) := by
  rw [k0_part1_eq_skeleton]; unfold k0_part1_skel
  simp only [semSignalWord, semWaitWord, Prog.lift, Prog.bind_op, Prog.bind_ret, Prog.pure_eq_ret, wp_deviceId]
  iintro ⟨#Hw, LR0, KS0, KF0, LR1, VS0, VF0, LR2, KS1, KF1⟩ Hk
  iapply (step_copyK m K c 0 0 rfl (kSrc_of 0 c _ (k0_off1_eq c) _) rfl _ rfl) $$ [LR0 KS0 KF0]
  · isplitr; · iexact Hw
    isplitl [LR0]; · iexact LR0
    isplitl [KS0]; · iexact KS0
    iexact KF0
  iintro LF0
  iapply (step_copyV m K c 0 1 rfl (vSrc_of 0 c _ (k0_off1_eq c) _) rfl _ rfl) $$ [LR1 VS0 VF0]
  · isplitr; · iexact Hw
    isplitl [LR1]; · iexact LR1
    isplitl [VS0]; · iexact VS0
    iexact VF0
  iintro LF1
  iapply (step_copyK m K c 1 2 rfl (kSrc_of 1 c _ (k0_off2_eq c) _) rfl _ rfl) $$ [LR2 KS1 KF1]
  · isplitr; · iexact Hw
    isplitl [LR2]; · iexact LR2
    isplitl [KS1]; · iexact KS1
    iexact KF1
  iintro LF2
  rw [wp_ret]; imodintro
  iapply Hk
  isplitl [LF0]; · iexact LF0
  isplitl [LF1]; · iexact LF1
  iexact LF2

/-- The fourth copy is started, then both partners are signalled. -/
theorem part2 {Kt : _ → sProp 𝕄} (v4 v5 : BitVec 32) :
    iprop(world m K ∗ ow c (O₀ c) ∗ locReady c 3 ∗ vSrcPts m c 1 ∗ (∃ f, vPts c 1 f) ∗ dutyTok ER (barCell (pa c)) 0 false ∗ handA c ∗ dutyTok ER (barCell (pb c)) 0 true ∗ handB c)
      ⊢ iprop((∀ r, ⌜r = ⟨SemArray.scalar (sig.barrier 0 rfl), k0_pay2, iota .tc S128x128 32 [1] iota_S128x128_d1_w32, 64#32, k0_pay3⟩⌝ -∗ (ow c (owedL c [0, 1, 2, 3, 4, 5, 6, 7]) ∗ locFlying c 3) -∗ Kt r) -∗ wp frame (wpE (defs₀ (F := F)) 𝒱₀ (c : Thread nD τ) none) Set.univ
        (k0_part2 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v4 v5) Kt) := by
  rw [k0_part2_eq_skeleton]; unfold k0_part2_skel
  simp only [semSignalWord, semWaitWord, Prog.lift, Prog.bind_op, Prog.bind_ret, Prog.pure_eq_ret, wp_deviceId]
  iintro ⟨#Hw, O, LR3, VS1, VF1, BT, HA, BU, HB⟩ Hk
  iapply (step_copyV m K c 1 3 rfl (vSrc_of 1 c _ (k0_off2_eq c) _) rfl _ rfl) $$ [LR3 VS1 VF1]
  · isplitr; · iexact Hw
    isplitl [LR3]; · iexact LR3
    isplitl [VS1]; · iexact VS1
    iexact VF1
  iintro LF3
  iapply (step_signalA m K c (dev1_eq c) rfl) $$ [O BT HA]
  · isplitr; · iexact Hw
    isplitl [O]; · iexact O
    isplitl [BT]; · iexact BT
    iexact HA
  iintro O
  iapply (step_signalB m K c (dev2_eq c) rfl) $$ [O BU HB]
  · isplitr; · iexact Hw
    isplitl [O]; · iexact O
    isplitl [BU]; · iexact BU
    iexact HB
  iintro O
  rw [wp_ret]; imodintro
  iapply Hk $$ [] [O LF3]
  · ipureintro; rfl
  isplitl [O]; · iexact O
  iexact LF3

/-- The projected queries of batch 0. -/
theorem part3 {Kt : _ → sProp 𝕄}  :
    iprop(world m K ∗ xPts m c ∗ wqPts m c)
      ⊢ iprop((∀ r, ⌜r = ⟨msk, q0 m c⟩⌝ -∗ (wqPts m c ∗ xPts m c) -∗ Kt r) -∗ wp frame (wpE (defs₀ (F := F)) 𝒱₀ (c : Thread nD τ) none) Set.univ
        (k0_part3 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 k0_pay2 (iota .tc S128x128 32 [1] iota_S128x128_d1_w32) 64#32 k0_pay3) Kt) := by
  rw [k0_part3_eq_skeleton]; unfold k0_part3_skel
  simp only [semSignalWord, semWaitWord, Prog.lift, Prog.bind_op, Prog.bind_ret, Prog.pure_eq_ret, wp_deviceId]
  iintro ⟨#Hw, X, WQ⟩ Hk
  iapply (step_loadX m c) $$ [X]
  · iexact X
  iintro X
  iapply (step_loadWq m c) $$ [WQ]
  · iexact WQ
  iintro WQ
  rw [wp_ret]; imodintro
  iapply Hk $$ [] [WQ X]
  · ipureintro; rfl
  isplitl [WQ]; · iexact WQ
  iexact X

/-- Keys and values of batch 0 have arrived; head 0. -/
theorem part4 {Kt : _ → sProp 𝕄}  :
    iprop(world m K ∗ ow c (owedL c [0, 1, 2, 3, 4, 5, 6, 7]) ∗ locFlying c 0 ∗ locFlying c 1)
      ⊢ iprop((∀ r, ⌜r = ⟨o00 m c, q01 m c⟩⌝ -∗ (ow c (owedL c [0, 1, 2, 3, 4, 5, 6, 7]) ∗ kPts c 0 (heads (kAt m c) c) ∗ kSrcPts m c 0 ∗ semVal (locCell c 0) 0 ∗ semVal (locCell c 1) 0 ∗ vPts c 0 (heads (vAt m c) c) ∗ vSrcPts m c 0) -∗ Kt r) -∗ wp frame (wpE (defs₀ (F := F)) 𝒱₀ (c : Thread nD τ) none) Set.univ
        (k0_part4 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c msk (q0 m c)) Kt) := by
  rw [k0_part4_eq_skeleton]; unfold k0_part4_skel
  simp only [semSignalWord, semWaitWord, Prog.lift, Prog.bind_op, Prog.bind_ret, Prog.pure_eq_ret, wp_deviceId]
  iintro ⟨#Hw, O, LF0, LF1⟩ Hk
  iapply (step_waitLoc m K c 0 [0, 1, 2, 3, 4, 5, 6, 7] _ rfl (kM_credit 0)) $$ [O LF0]
  · isplitr; · iexact Hw
    isplitl [O]; · iexact O
    iexact LF0
  iintro ⟨O, LZ0, P⟩
  icases (show _ ⊢ _ from Entails.of_eq (show locPay m c 0 = iprop(_ ∗ _) from rfl)) $$ P with ⟨K0, KS0⟩
  iapply (step_waitLoc m K c 1 [0, 1, 2, 3, 4, 5, 6, 7] _ rfl (vM_credit 0)) $$ [O LF1]
  · isplitr; · iexact Hw
    isplitl [O]; · iexact O
    iexact LF1
  iintro ⟨O, LZ1, P⟩
  icases (show _ ⊢ _ from Entails.of_eq (show locPay m c 1 = iprop(_ ∗ _) from rfl)) $$ P with ⟨V0, VS0⟩
  iapply (step_loadK m c 0 0 rfl (kh m 0 0 c) HEq.rfl) $$ [K0]
  · iexact K0
  iintro K0
  iapply (step_loadV m c 0 0 rfl (vh m 0 0 c) HEq.rfl) $$ [V0]
  · iexact V0
  iintro V0
  rw [wp_ret]; imodintro
  iapply Hk $$ [] [O K0 KS0 LZ0 LZ1 V0 VS0]
  · ipureintro; rfl
  isplitl [O]; · iexact O
  isplitl [K0]; · iexact K0
  isplitl [KS0]; · iexact KS0
  isplitl [LZ0]; · iexact LZ0
  isplitl [LZ1]; · iexact LZ1
  isplitl [V0]; · iexact V0
  iexact VS0

/-- Heads 1 and 2 of batch 0. -/
theorem part5 {Kt : _ → sProp 𝕄}  :
    iprop(world m K ∗ kPts c 0 (heads (kAt m c) c) ∗ vPts c 0 (heads (vAt m c) c))
      ⊢ iprop((∀ r, ⌜r = ⟨o01 m c, o02 m c, q03 m c, k03 m c⟩⌝ -∗ (kPts c 0 (heads (kAt m c) c) ∗ vPts c 0 (heads (vAt m c) c)) -∗ Kt r) -∗ wp frame (wpE (defs₀ (F := F)) 𝒱₀ (c : Thread nD τ) none) Set.univ
        (k0_part5 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 msk (q0 m c) (q01 m c)) Kt) := by
  rw [k0_part5_eq_skeleton]; unfold k0_part5_skel
  simp only [semSignalWord, semWaitWord, Prog.lift, Prog.bind_op, Prog.bind_ret, Prog.pure_eq_ret, wp_deviceId]
  iintro ⟨#Hw, K0, V0⟩ Hk
  iapply (step_loadK m c 0 1 rfl (kh m 0 1 c) HEq.rfl) $$ [K0]
  · iexact K0
  iintro K0
  iapply (step_loadV m c 0 1 rfl (vh m 0 1 c) HEq.rfl) $$ [V0]
  · iexact V0
  iintro V0
  iapply (step_loadK m c 0 2 rfl (kh m 0 2 c) HEq.rfl) $$ [K0]
  · iexact K0
  iintro K0
  iapply (step_loadV m c 0 2 rfl (vh m 0 2 c) HEq.rfl) $$ [V0]
  · iexact V0
  iintro V0
  iapply (step_loadK m c 0 3 rfl (kh m 0 3 c) HEq.rfl) $$ [K0]
  · iexact K0
  iintro K0
  rw [wp_ret]; imodintro
  iapply Hk $$ [] [K0 V0]
  · ipureintro; rfl
  isplitl [K0]; · iexact K0
  iexact V0

/-- Head 3 of batch 0, the projected partial result into the first two send slots, and the wait for both partners. -/
theorem part6 {Kt : _ → sProp 𝕄} (v4 : BitVec 32) :
    iprop(world m K ∗ ow c (owedL c [0, 1, 2, 3, 4, 5, 6, 7]) ∗ vPts c 0 (heads (vAt m c) c) ∗ woPts m c ∗ (∃ f, sendPts c 0 f) ∗ (∃ f, sendPts c 1 f) ∗ atPos ER (barCell c) 0 ∅ 0 ∗ cred (tallyAt (barCell c) () 2))
      ⊢ iprop((∀ r, ⌜r = (p0 m c)⌝ -∗ (ow c (owedL c [0, 1, 2, 3, 4, 5, 6, 7]) ∗ semVal (barCell c) 0 ∗ handA (pa c) ∗ handB (pb c) ∗ sendPts c 0 (sendAll m c) ∗ sendPts c 1 (sendAll m c) ∗ vPts c 0 (heads (vAt m c) c) ∗ woPts m c) -∗ Kt r) -∗ wp frame (wpE (defs₀ (F := F)) 𝒱₀ (c : Thread nD τ) none) Set.univ
        (k0_part6 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v4 (SemArray.scalar (sig.barrier 0 rfl)) msk (o00 m c) (o01 m c) (o02 m c) (q03 m c) (k03 m c)) Kt) := by
  rw [k0_part6_eq_skeleton]; unfold k0_part6_skel
  simp only [semSignalWord, semWaitWord, Prog.lift, Prog.bind_op, Prog.bind_ret, Prog.pure_eq_ret, wp_deviceId]
  iintro ⟨#Hw, O, V0, WO, SF0, SF1, BP, BC⟩ Hk
  iapply (step_loadV m c 0 3 rfl (vh m 0 3 c) HEq.rfl) $$ [V0]
  · iexact V0
  iintro V0
  iapply (step_loadWo m c) $$ [WO]
  · iexact WO
  iintro WO
  iapply (step_fill m c 0 rfl rfl (heq_of_eq rfl)) $$ [SF0]
  · iexact SF0
  iintro S0
  iapply (step_fill m c 1 rfl rfl (heq_of_eq rfl)) $$ [SF1]
  · iexact SF1
  iintro S1
  iapply (step_waitBar m K c rfl) $$ [O BP BC]
  · isplitr; · iexact Hw
    isplitl [O]; · iexact O
    isplitl [BP]; · iexact BP
    iexact BC
  iintro ⟨O, BZ, NA, NB⟩
  rw [wp_ret]; imodintro
  iapply Hk $$ [] [O BZ NA NB S0 S1 V0 WO]
  · ipureintro; rfl
  isplitl [O]; · iexact O
  isplitl [BZ]; · iexact BZ
  isplitl [NA]; · iexact NA
  isplitl [NB]; · iexact NB
  isplitl [S0]; · iexact S0
  isplitl [S1]; · iexact S1
  isplitl [V0]; · iexact V0
  iexact WO

/-- The first two transfers, and the projected queries of batch 1. -/
theorem part7 {Kt : _ → sProp 𝕄} (v4 : BitVec 32) :
    iprop(world m K ∗ ow c (owedL c [0, 1, 2, 3, 4, 5, 6, 7]) ∗ sendReady c 0 ∗ sendPts c 0 (sendAll m c) ∗ (∃ f, commPts (partner 0 c) 0 f) ∗ sendReady c 1 ∗ sendPts c 1 (sendAll m c) ∗ (∃ f, commPts (partner 1 c) 1 f) ∗ xPts m c ∗ wqPts m c)
      ⊢ iprop((∀ r, ⌜r = (q1 m c)⌝ -∗ (ow c (owedL c [2, 3, 4, 5, 6, 7]) ∗ sendFlying c 0 ∗ sendFlying c 1 ∗ wqPts m c ∗ xPts m c) -∗ Kt r) -∗ wp frame (wpE (defs₀ (F := F)) 𝒱₀ (c : Thread nD τ) none) Set.univ
        (k0_part7 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v4) Kt) := by
  rw [k0_part7_eq_skeleton]; unfold k0_part7_skel
  simp only [semSignalWord, semWaitWord, Prog.lift, Prog.bind_op, Prog.bind_ret, Prog.pure_eq_ret, wp_deviceId]
  iintro ⟨#Hw, O, SR0, S0, CN0, SR1, S1, CN1, X, WQ⟩ Hk
  iapply (step_send m K c 0 [1, 2, 3, 4, 5, 6, 7] (dev3_eq c) rfl rfl rfl rfl) $$ [O SR0 S0 CN0]
  · isplitr; · iexact Hw
    isplitl [O]; · iexact O
    isplitl [SR0]; · iexact SR0
    isplitl [S0]; · iexact S0
    iexact CN0
  iintro ⟨O, SFL0⟩
  iapply (step_send m K c 1 [2, 3, 4, 5, 6, 7] (dev4_eq c) rfl rfl rfl rfl) $$ [O SR1 S1 CN1]
  · isplitr; · iexact Hw
    isplitl [O]; · iexact O
    isplitl [SR1]; · iexact SR1
    isplitl [S1]; · iexact S1
    iexact CN1
  iintro ⟨O, SFL1⟩
  iapply (step_loadX m c) $$ [X]
  · iexact X
  iintro X
  iapply (step_loadWq m c) $$ [WQ]
  · iexact WQ
  iintro WQ
  rw [wp_ret]; imodintro
  iapply Hk $$ [] [O SFL0 SFL1 WQ X]
  · ipureintro; rfl
  isplitl [O]; · iexact O
  isplitl [SFL0]; · iexact SFL0
  isplitl [SFL1]; · iexact SFL1
  isplitl [WQ]; · iexact WQ
  iexact X

end Cert.Exchange

end
-- ==== Proof.Exchange.PartsB.lean ====
/-
# The kernel's later parts: second batch, round one and round two
-/
module

public import proofs.«01_k».proof.Proof.Exchange.Steps

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- Keys and values of batch 1 have arrived; head 0 and the weights of head 1. -/
theorem part8 {Kt : _ → sProp 𝕄}  :
    iprop(world m K ∗ ow c (owedL c [2, 3, 4, 5, 6, 7]) ∗ locFlying c 2 ∗ locFlying c 3)
      ⊢ iprop((∀ r, ⌜r = ⟨o10 m c, e11 m c, l11 m c⟩⌝ -∗ (ow c (owedL c [2, 3, 4, 5, 6, 7]) ∗ kPts c 1 (heads (kAt m c) c) ∗ kSrcPts m c 1 ∗ semVal (locCell c 2) 0 ∗ semVal (locCell c 3) 0 ∗ vPts c 1 (heads (vAt m c) c) ∗ vSrcPts m c 1) -∗ Kt r) -∗ wp frame (wpE (defs₀ (F := F)) 𝒱₀ (c : Thread nD τ) none) Set.univ
        (k0_part8 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c msk (q1 m c)) Kt) := by
  rw [k0_part8_eq_skeleton]; unfold k0_part8_skel
  simp only [semSignalWord, semWaitWord, Prog.lift, Prog.bind_op, Prog.bind_ret, Prog.pure_eq_ret, wp_deviceId]
  iintro ⟨#Hw, O, LF2, LF3⟩ Hk
  iapply (step_waitLoc m K c 2 [2, 3, 4, 5, 6, 7] _ rfl (kM_credit 1)) $$ [O LF2]
  · isplitr; · iexact Hw
    isplitl [O]; · iexact O
    iexact LF2
  iintro ⟨O, LZ2, P⟩
  icases (show _ ⊢ _ from Entails.of_eq (show locPay m c 2 = iprop(_ ∗ _) from rfl)) $$ P with ⟨K1, KS1⟩
  iapply (step_waitLoc m K c 3 [2, 3, 4, 5, 6, 7] _ rfl (vM_credit 1)) $$ [O LF3]
  · isplitr; · iexact Hw
    isplitl [O]; · iexact O
    iexact LF3
  iintro ⟨O, LZ3, P⟩
  icases (show _ ⊢ _ from Entails.of_eq (show locPay m c 3 = iprop(_ ∗ _) from rfl)) $$ P with ⟨V1, VS1⟩
  iapply (step_loadK m c 1 0 rfl (kh m 1 0 c) HEq.rfl) $$ [K1]
  · iexact K1
  iintro K1
  iapply (step_loadV m c 1 0 rfl (vh m 1 0 c) HEq.rfl) $$ [V1]
  · iexact V1
  iintro V1
  iapply (step_loadK m c 1 1 rfl (kh m 1 1 c) HEq.rfl) $$ [K1]
  · iexact K1
  iintro K1
  rw [wp_ret]; imodintro
  iapply Hk $$ [] [O K1 KS1 LZ2 LZ3 V1 VS1]
  · ipureintro; rfl
  isplitl [O]; · iexact O
  isplitl [K1]; · iexact K1
  isplitl [KS1]; · iexact KS1
  isplitl [LZ2]; · iexact LZ2
  isplitl [LZ3]; · iexact LZ3
  isplitl [V1]; · iexact V1
  iexact VS1

/-- Heads 1 and 2 of batch 1, and the weights of head 3. -/
theorem part9 {Kt : _ → sProp 𝕄}  :
    iprop(world m K ∗ vPts c 1 (heads (vAt m c) c) ∗ kPts c 1 (heads (kAt m c) c))
      ⊢ iprop((∀ r, ⌜r = ⟨o11 m c, o12 m c, e13 m c, l13 m c, one⟩⌝ -∗ (kPts c 1 (heads (kAt m c) c) ∗ vPts c 1 (heads (vAt m c) c)) -∗ Kt r) -∗ wp frame (wpE (defs₀ (F := F)) 𝒱₀ (c : Thread nD τ) none) Set.univ
        (k0_part9 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 msk (q1 m c) (e11 m c) (l11 m c)) Kt) := by
  rw [k0_part9_eq_skeleton]; unfold k0_part9_skel
  simp only [semSignalWord, semWaitWord, Prog.lift, Prog.bind_op, Prog.bind_ret, Prog.pure_eq_ret, wp_deviceId]
  iintro ⟨#Hw, V1, K1⟩ Hk
  iapply (step_loadV m c 1 1 rfl (vh m 1 1 c) HEq.rfl) $$ [V1]
  · iexact V1
  iintro V1
  iapply (step_loadK m c 1 2 rfl (kh m 1 2 c) HEq.rfl) $$ [K1]
  · iexact K1
  iintro K1
  iapply (step_loadV m c 1 2 rfl (vh m 1 2 c) HEq.rfl) $$ [V1]
  · iexact V1
  iintro V1
  iapply (step_loadK m c 1 3 rfl (kh m 1 3 c) HEq.rfl) $$ [K1]
  · iexact K1
  iintro K1
  rw [wp_ret]; imodintro
  iapply Hk $$ [] [K1 V1]
  · ipureintro; rfl
  isplitl [K1]; · iexact K1
  iexact V1

/-- Head 3 of batch 1, the projected partial result into send slots 2 and 3, and the third transfer. -/
theorem part10 {Kt : _ → sProp 𝕄} (v5 : BitVec 32) :
    iprop(world m K ∗ ow c (owedL c [2, 3, 4, 5, 6, 7]) ∗ vPts c 1 (heads (vAt m c) c) ∗ woPts m c ∗ (∃ f, sendPts c 2 f) ∗ (∃ f, sendPts c 3 f) ∗ sendReady c 2 ∗ (∃ f, commPts (partner 2 c) 2 f))
      ⊢ iprop((∀ r, ⌜r = p1 m c⌝ -∗ (ow c (owedL c [3, 4, 5, 6, 7]) ∗ sendPts c 3 (sendAll m c) ∗ sendFlying c 2 ∗ vPts c 1 (heads (vAt m c) c) ∗ woPts m c) -∗ Kt r) -∗ wp frame (wpE (defs₀ (F := F)) 𝒱₀ (c : Thread nD τ) none) Set.univ
        (k0_part10 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v5 (o10 m c) (o11 m c) (o12 m c) (e13 m c) (l13 m c) one) Kt) := by
  rw [k0_part10_eq_skeleton]; unfold k0_part10_skel
  simp only [semSignalWord, semWaitWord, Prog.lift, Prog.bind_op, Prog.bind_ret, Prog.pure_eq_ret, wp_deviceId]
  iintro ⟨#Hw, O, V1, WO, SF2, SF3, SR2, CN2⟩ Hk
  iapply (step_loadV m c 1 3 rfl (vh m 1 3 c) HEq.rfl) $$ [V1]
  · iexact V1
  iintro V1
  iapply (step_loadWo m c) $$ [WO]
  · iexact WO
  iintro WO
  iapply (step_fill m c 2 rfl rfl (heq_of_eq rfl)) $$ [SF2]
  · iexact SF2
  iintro S2
  iapply (step_fill m c 3 rfl rfl (heq_of_eq rfl)) $$ [SF3]
  · iexact SF3
  iintro S3
  iapply (step_send m K c 2 [3, 4, 5, 6, 7] (dev5_eq c) rfl rfl rfl rfl) $$ [O SR2 S2 CN2]
  · isplitr; · iexact Hw
    isplitl [O]; · iexact O
    isplitl [SR2]; · iexact SR2
    isplitl [S2]; · iexact S2
    iexact CN2
  iintro ⟨O, SFL2⟩
  rw [wp_ret]; imodintro
  iapply Hk $$ [] [O S3 SFL2 V1 WO]
  · ipureintro; rfl
  isplitl [O]; · iexact O
  isplitl [S3]; · iexact S3
  isplitl [SFL2]; · iexact SFL2
  isplitl [V1]; · iexact V1
  iexact WO

/-- The fourth transfer; batch 0's first half of round one has arrived. -/
theorem part11 {Kt : _ → sProp 𝕄} (v4 v5 : BitVec 32) :
    iprop(world m K ∗ ow c (owedL c [3, 4, 5, 6, 7]) ∗ sendReady c 3 ∗ sendPts c 3 (sendAll m c) ∗ (∃ f, commPts (partner 3 c) 3 f) ∗ sendFlying c 0 ∗ recvReady c 0)
      ⊢ iprop((∀ r, ⌜r = ⟨h0 m c, g0 m c⟩⌝ -∗ (ow c (owedL c [4, 5, 6, 7]) ∗ commPts c 0 (landed m c) ∗ semVal (recvCell c 0) 0 ∗ sendPts c 0 (sendAll m c) ∗ sendFlying c 3 ∗ semVal (sendCell c 0) 0) -∗ Kt r) -∗ wp frame (wpE (defs₀ (F := F)) 𝒱₀ (c : Thread nD τ) none) Set.univ
        (k0_part11 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v4 v5 (p0 m c)) Kt) := by
  rw [k0_part11_eq_skeleton]; unfold k0_part11_skel
  simp only [semSignalWord, semWaitWord, Prog.lift, Prog.bind_op, Prog.bind_ret, Prog.pure_eq_ret, wp_deviceId]
  iintro ⟨#Hw, O, SR3, S3, CN3, SFL0, RR0⟩ Hk
  iapply (step_send m K c 3 [4, 5, 6, 7] (dev6_eq c) rfl rfl rfl rfl) $$ [O SR3 S3 CN3]
  · isplitr; · iexact Hw
    isplitl [O]; · iexact O
    isplitl [SR3]; · iexact SR3
    isplitl [S3]; · iexact S3
    iexact CN3
  iintro ⟨O, SFL3⟩
  iapply (step_waitSend m K c 0 [4, 5, 6, 7] _ rfl (sendM_credit 0)) $$ [O SFL0]
  · isplitr; · iexact Hw
    isplitl [O]; · iexact O
    iexact SFL0
  iintro ⟨O, SZ0, S0⟩
  iapply (step_waitRecv m K c 0 [4, 5, 6, 7] (by decide) _ rfl (commM_credit 0)) $$ [O RR0]
  · isplitr; · iexact Hw
    isplitl [O]; · iexact O
    iexact RR0
  iintro ⟨O, RZ0, C0⟩
  iapply (step_loadComm m c 0 rfl (snd m (partner 0 c) 0) HEq.rfl) $$ [C0]
  · iexact C0
  iintro C0
  rw [wp_ret]; imodintro
  iapply Hk $$ [] [O C0 RZ0 S0 SFL3 SZ0]
  · ipureintro; rfl
  isplitl [O]; · iexact O
  isplitl [C0]; · iexact C0
  isplitl [RZ0]; · iexact RZ0
  isplitl [S0]; · iexact S0
  isplitl [SFL3]; · iexact SFL3
  iexact SZ0

/-- Its sum is sent on. -/
theorem part12 {Kt : _ → sProp 𝕄} (v4 v5 : BitVec 32) :
    iprop(world m K ∗ ow c (owedL c [4, 5, 6, 7]) ∗ (∃ f, sendPts c 4 f) ∗ sendReady c 4 ∗ (∃ f, commPts (partner 4 c) 4 f) ∗ sendFlying c 1)
      ⊢ iprop((∀ r, ⌜r = a0 m c⌝ -∗ (ow c (owedL c [5, 6, 7]) ∗ sendPts c 1 (sendAll m c) ∗ sendFlying c 4 ∗ semVal (sendCell c 1) 0) -∗ Kt r) -∗ wp frame (wpE (defs₀ (F := F)) 𝒱₀ (c : Thread nD τ) none) Set.univ
        (k0_part12 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v4 v5 (h0 m c) (g0 m c)) Kt) := by
  rw [k0_part12_eq_skeleton]; unfold k0_part12_skel
  simp only [semSignalWord, semWaitWord, Prog.lift, Prog.bind_op, Prog.bind_ret, Prog.pure_eq_ret, wp_deviceId]
  iintro ⟨#Hw, O, SF4, SR4, CN4, SFL1⟩ Hk
  iapply (step_fill m c 4 rfl rfl (heq_of_eq rfl)) $$ [SF4]
  · iexact SF4
  iintro S4
  iapply (step_send m K c 4 [5, 6, 7] (dev7_eq c) rfl rfl rfl rfl) $$ [O SR4 S4 CN4]
  · isplitr; · iexact Hw
    isplitl [O]; · iexact O
    isplitl [SR4]; · iexact SR4
    isplitl [S4]; · iexact S4
    iexact CN4
  iintro ⟨O, SFL4⟩
  iapply (step_waitSend m K c 1 [5, 6, 7] _ rfl (sendM_credit 1)) $$ [O SFL1]
  · isplitr; · iexact Hw
    isplitl [O]; · iexact O
    iexact SFL1
  iintro ⟨O, SZ1, S1⟩
  rw [wp_ret]; imodintro
  iapply Hk $$ [] [O S1 SFL4 SZ1]
  · ipureintro; rfl
  isplitl [O]; · iexact O
  isplitl [S1]; · iexact S1
  isplitl [SFL4]; · iexact SFL4
  iexact SZ1

/-- Batch 0's second half of round one, summed and sent on. -/
theorem part13 {Kt : _ → sProp 𝕄} (v5 : BitVec 32) :
    iprop(world m K ∗ ow c (owedL c [5, 6, 7]) ∗ recvReady c 1 ∗ (∃ f, sendPts c 5 f) ∗ sendReady c 5 ∗ (∃ f, commPts (partner 5 c) 5 f) ∗ sendFlying c 2)
      ⊢ iprop((∀ r, ⌜r = a1 m c⌝ -∗ (ow c (owedL c [6, 7]) ∗ commPts c 1 (landed m c) ∗ semVal (recvCell c 1) 0 ∗ sendPts c 2 (sendAll m c) ∗ sendFlying c 5 ∗ semVal (sendCell c 2) 0) -∗ Kt r) -∗ wp frame (wpE (defs₀ (F := F)) 𝒱₀ (c : Thread nD τ) none) Set.univ
        (k0_part13 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v5 (p0 m c)) Kt) := by
  rw [k0_part13_eq_skeleton]; unfold k0_part13_skel
  simp only [semSignalWord, semWaitWord, Prog.lift, Prog.bind_op, Prog.bind_ret, Prog.pure_eq_ret, wp_deviceId]
  iintro ⟨#Hw, O, RR1, SF5, SR5, CN5, SFL2⟩ Hk
  iapply (step_waitRecv m K c 1 [5, 6, 7] (by decide) _ rfl (commM_credit 1)) $$ [O RR1]
  · isplitr; · iexact Hw
    isplitl [O]; · iexact O
    iexact RR1
  iintro ⟨O, RZ1, C1⟩
  iapply (step_loadComm m c 1 rfl (snd m (partner 1 c) 1) HEq.rfl) $$ [C1]
  · iexact C1
  iintro C1
  iapply (step_fill m c 5 rfl rfl (heq_of_eq rfl)) $$ [SF5]
  · iexact SF5
  iintro S5
  iapply (step_send m K c 5 [6, 7] (dev8_eq c) rfl rfl rfl rfl) $$ [O SR5 S5 CN5]
  · isplitr; · iexact Hw
    isplitl [O]; · iexact O
    isplitl [SR5]; · iexact SR5
    isplitl [S5]; · iexact S5
    iexact CN5
  iintro ⟨O, SFL5⟩
  iapply (step_waitSend m K c 2 [6, 7] _ rfl (sendM_credit 2)) $$ [O SFL2]
  · isplitr; · iexact Hw
    isplitl [O]; · iexact O
    iexact SFL2
  iintro ⟨O, SZ2, S2⟩
  rw [wp_ret]; imodintro
  iapply Hk $$ [] [O C1 RZ1 S2 SFL5 SZ2]
  · ipureintro; rfl
  isplitl [O]; · iexact O
  isplitl [C1]; · iexact C1
  isplitl [RZ1]; · iexact RZ1
  isplitl [S2]; · iexact S2
  isplitl [SFL5]; · iexact SFL5
  iexact SZ2

/-- Batch 1's first half of round one, summed and sent on. -/
theorem part14 {Kt : _ → sProp 𝕄} (v4 v5 : BitVec 32) :
    iprop(world m K ∗ ow c (owedL c [6, 7]) ∗ recvReady c 2 ∗ (∃ f, sendPts c 6 f) ∗ sendReady c 6 ∗ (∃ f, commPts (partner 6 c) 6 f))
      ⊢ iprop((∀ r, ⌜r = a2 m c⌝ -∗ (ow c (owedL c [7]) ∗ commPts c 2 (landed m c) ∗ semVal (recvCell c 2) 0 ∗ sendFlying c 6) -∗ Kt r) -∗ wp frame (wpE (defs₀ (F := F)) 𝒱₀ (c : Thread nD τ) none) Set.univ
        (k0_part14 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v4 v5 (p1 m c)) Kt) := by
  rw [k0_part14_eq_skeleton]; unfold k0_part14_skel
  simp only [semSignalWord, semWaitWord, Prog.lift, Prog.bind_op, Prog.bind_ret, Prog.pure_eq_ret, wp_deviceId]
  iintro ⟨#Hw, O, RR2, SF6, SR6, CN6⟩ Hk
  iapply (step_waitRecv m K c 2 [6, 7] (by decide) _ rfl (commM_credit 2)) $$ [O RR2]
  · isplitr; · iexact Hw
    isplitl [O]; · iexact O
    iexact RR2
  iintro ⟨O, RZ2, C2⟩
  iapply (step_loadComm m c 2 rfl (snd m (partner 2 c) 2) HEq.rfl) $$ [C2]
  · iexact C2
  iintro C2
  iapply (step_fill m c 6 rfl rfl (heq_of_eq rfl)) $$ [SF6]
  · iexact SF6
  iintro S6
  iapply (step_send m K c 6 [7] (dev9_eq c) rfl rfl rfl rfl) $$ [O SR6 S6 CN6]
  · isplitr; · iexact Hw
    isplitl [O]; · iexact O
    isplitl [SR6]; · iexact SR6
    isplitl [S6]; · iexact S6
    iexact CN6
  iintro ⟨O, SFL6⟩
  rw [wp_ret]; imodintro
  iapply Hk $$ [] [O C2 RZ2 SFL6]
  · ipureintro; rfl
  isplitl [O]; · iexact O
  isplitl [C2]; · iexact C2
  isplitl [RZ2]; · iexact RZ2
  iexact SFL6

/-- Batch 1's second half of round one, summed into its send slot. -/
theorem part15 {Kt : _ → sProp 𝕄} (v4 v5 : BitVec 32) :
    iprop(world m K ∗ ow c (owedL c [7]) ∗ sendFlying c 3 ∗ recvReady c 3 ∗ (∃ f, sendPts c 7 f))
      ⊢ iprop((∀ r, ⌜r = a3 m c⌝ -∗ (ow c (owedL c [7]) ∗ commPts c 3 (landed m c) ∗ semVal (recvCell c 3) 0 ∗ sendPts c 3 (sendAll m c) ∗ sendPts c 7 (sendAll m c) ∗ semVal (sendCell c 3) 0) -∗ Kt r) -∗ wp frame (wpE (defs₀ (F := F)) 𝒱₀ (c : Thread nD τ) none) Set.univ
        (k0_part15 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v4 v5 (p1 m c)) Kt) := by
  rw [k0_part15_eq_skeleton]; unfold k0_part15_skel
  simp only [semSignalWord, semWaitWord, Prog.lift, Prog.bind_op, Prog.bind_ret, Prog.pure_eq_ret, wp_deviceId]
  iintro ⟨#Hw, O, SFL3, RR3, SF7⟩ Hk
  iapply (step_waitSend m K c 3 [7] _ rfl (sendM_credit 3)) $$ [O SFL3]
  · isplitr; · iexact Hw
    isplitl [O]; · iexact O
    iexact SFL3
  iintro ⟨O, SZ3, S3⟩
  iapply (step_waitRecv m K c 3 [7] (by decide) _ rfl (commM_credit 3)) $$ [O RR3]
  · isplitr; · iexact Hw
    isplitl [O]; · iexact O
    iexact RR3
  iintro ⟨O, RZ3, C3⟩
  iapply (step_loadComm m c 3 rfl (snd m (partner 3 c) 3) HEq.rfl) $$ [C3]
  · iexact C3
  iintro C3
  iapply (step_fill m c 7 rfl rfl (heq_of_eq rfl)) $$ [SF7]
  · iexact SF7
  iintro S7
  rw [wp_ret]; imodintro
  iapply Hk $$ [] [O C3 RZ3 S3 S7 SZ3]
  · ipureintro; rfl
  isplitl [O]; · iexact O
  isplitl [C3]; · iexact C3
  isplitl [RZ3]; · iexact RZ3
  isplitl [S3]; · iexact S3
  isplitl [S7]; · iexact S7
  iexact SZ3

/-- The last transfer; the first quarter of the result. -/
theorem part16 {Kt : _ → sProp 𝕄} (v5 : BitVec 32) (f : (cc0_stg3_0 : Ref sig .tc).ty.Contents (Elt F)) :
    iprop(world m K ∗ ow c (owedL c [7]) ∗ sendReady c 7 ∗ sendPts c 7 (sendAll m c) ∗ (∃ f, commPts (partner 7 c) 7 f) ∗ sendFlying c 4 ∗ recvReady c 4 ∗ outPts c f)
      ⊢ iprop(((ow c (owedL c []) ∗ commPts c 4 (landed m c) ∗ outPts c (storeOut f 0 0 (r00 m c)) ∗ semVal (recvCell c 4) 0 ∗ sendPts c 4 (sendAll m c) ∗ sendFlying c 7 ∗ semVal (sendCell c 4) 0) -∗ Kt ⟨⟩) -∗ wp frame (wpE (defs₀ (F := F)) 𝒱₀ (c : Thread nD τ) none) Set.univ
        (k0_part16 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v5 (a0 m c)) Kt) := by
  rw [k0_part16_eq_skeleton]; unfold k0_part16_skel
  simp only [semSignalWord, semWaitWord, Prog.lift, Prog.bind_op, Prog.bind_ret, Prog.pure_eq_ret, wp_deviceId]
  iintro ⟨#Hw, O, SR7, S7, CN7, SFL4, RR4, OUT⟩ Hk
  iapply (step_send m K c 7 [] (dev10_eq c) rfl rfl rfl rfl) $$ [O SR7 S7 CN7]
  · isplitr; · iexact Hw
    isplitl [O]; · iexact O
    isplitl [SR7]; · iexact SR7
    isplitl [S7]; · iexact S7
    iexact CN7
  iintro ⟨O, SFL7⟩
  iapply (step_waitSend m K c 4 [] _ rfl (sendM_credit 4)) $$ [O SFL4]
  · isplitr; · iexact Hw
    isplitl [O]; · iexact O
    iexact SFL4
  iintro ⟨O, SZ4, S4⟩
  iapply (step_waitRecv m K c 4 [] (by decide) _ rfl (commM_credit 4)) $$ [O RR4]
  · isplitr; · iexact Hw
    isplitl [O]; · iexact O
    iexact RR4
  iintro ⟨O, RZ4, C4⟩
  iapply (step_loadComm m c 4 rfl (snd m (partner 4 c) 4) HEq.rfl) $$ [C4]
  · iexact C4
  iintro C4
  iapply (step_out c 0 0 rfl rfl (r00 m c) (heq_of_eq rfl) (f)) $$ [OUT]
  · iexact OUT
  iintro OUT
  rw [wp_ret]; imodintro
  iapply Hk
  isplitl [O]; · iexact O
  isplitl [C4]; · iexact C4
  isplitl [OUT]; · iexact OUT
  isplitl [RZ4]; · iexact RZ4
  isplitl [S4]; · iexact S4
  isplitl [SFL7]; · iexact SFL7
  iexact SZ4

/-- The second quarter of the result. -/
theorem part17 {Kt : _ → sProp 𝕄} (v5 : BitVec 32) (f : (cc0_stg3_0 : Ref sig .tc).ty.Contents (Elt F)) :
    iprop(world m K ∗ ow c (owedL c []) ∗ sendFlying c 5 ∗ recvReady c 5 ∗ outPts c f)
      ⊢ iprop(((ow c (owedL c []) ∗ commPts c 5 (landed m c) ∗ outPts c (storeOut f 0 1 (r01 m c)) ∗ semVal (recvCell c 5) 0 ∗ sendPts c 5 (sendAll m c) ∗ semVal (sendCell c 5) 0) -∗ Kt ⟨⟩) -∗ wp frame (wpE (defs₀ (F := F)) 𝒱₀ (c : Thread nD τ) none) Set.univ
        (k0_part17 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v5 (a1 m c)) Kt) := by
  rw [k0_part17_eq_skeleton]; unfold k0_part17_skel
  simp only [semSignalWord, semWaitWord, Prog.lift, Prog.bind_op, Prog.bind_ret, Prog.pure_eq_ret, wp_deviceId]
  iintro ⟨#Hw, O, SFL5, RR5, OUT⟩ Hk
  iapply (step_waitSend m K c 5 [] _ rfl (sendM_credit 5)) $$ [O SFL5]
  · isplitr; · iexact Hw
    isplitl [O]; · iexact O
    iexact SFL5
  iintro ⟨O, SZ5, S5⟩
  iapply (step_waitRecv m K c 5 [] (by decide) _ rfl (commM_credit 5)) $$ [O RR5]
  · isplitr; · iexact Hw
    isplitl [O]; · iexact O
    iexact RR5
  iintro ⟨O, RZ5, C5⟩
  iapply (step_loadComm m c 5 rfl (snd m (partner 5 c) 5) HEq.rfl) $$ [C5]
  · iexact C5
  iintro C5
  iapply (step_out c 0 1 rfl rfl (r01 m c) (heq_of_eq rfl) (f)) $$ [OUT]
  · iexact OUT
  iintro OUT
  rw [wp_ret]; imodintro
  iapply Hk
  isplitl [O]; · iexact O
  isplitl [C5]; · iexact C5
  isplitl [OUT]; · iexact OUT
  isplitl [RZ5]; · iexact RZ5
  isplitl [S5]; · iexact S5
  iexact SZ5

/-- The third quarter of the result, and the wait for the last transfer's completion. -/
theorem part18 {Kt : _ → sProp 𝕄} (v4 : BitVec 32) (f : (cc0_stg3_0 : Ref sig .tc).ty.Contents (Elt F)) :
    iprop(world m K ∗ ow c (owedL c []) ∗ sendFlying c 6 ∗ recvReady c 6 ∗ outPts c f ∗ sendFlying c 7)
      ⊢ iprop(((ow c (owedL c []) ∗ commPts c 6 (landed m c) ∗ outPts c (storeOut f 1 0 (r10 m c)) ∗ semVal (recvCell c 6) 0 ∗ sendPts c 6 (sendAll m c) ∗ sendPts c 7 (sendAll m c) ∗ semVal (sendCell c 6) 0 ∗ semVal (sendCell c 7) 0) -∗ Kt ⟨⟩) -∗ wp frame (wpE (defs₀ (F := F)) 𝒱₀ (c : Thread nD τ) none) Set.univ
        (k0_part18 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 v4 (a2 m c)) Kt) := by
  rw [k0_part18_eq_skeleton]; unfold k0_part18_skel
  simp only [semSignalWord, semWaitWord, Prog.lift, Prog.bind_op, Prog.bind_ret, Prog.pure_eq_ret, wp_deviceId]
  iintro ⟨#Hw, O, SFL6, RR6, OUT, SFL7⟩ Hk
  iapply (step_waitSend m K c 6 [] _ rfl (sendM_credit 6)) $$ [O SFL6]
  · isplitr; · iexact Hw
    isplitl [O]; · iexact O
    iexact SFL6
  iintro ⟨O, SZ6, S6⟩
  iapply (step_waitRecv m K c 6 [] (by decide) _ rfl (commM_credit 6)) $$ [O RR6]
  · isplitr; · iexact Hw
    isplitl [O]; · iexact O
    iexact RR6
  iintro ⟨O, RZ6, C6⟩
  iapply (step_loadComm m c 6 rfl (snd m (partner 6 c) 6) HEq.rfl) $$ [C6]
  · iexact C6
  iintro C6
  iapply (step_out c 1 0 rfl rfl (r10 m c) (heq_of_eq rfl) (f)) $$ [OUT]
  · iexact OUT
  iintro OUT
  iapply (step_waitSend m K c 7 [] _ rfl (sendM_credit 7)) $$ [O SFL7]
  · isplitr; · iexact Hw
    isplitl [O]; · iexact O
    iexact SFL7
  iintro ⟨O, SZ7, S7⟩
  rw [wp_ret]; imodintro
  iapply Hk
  isplitl [O]; · iexact O
  isplitl [C6]; · iexact C6
  isplitl [OUT]; · iexact OUT
  isplitl [RZ6]; · iexact RZ6
  isplitl [S6]; · iexact S6
  isplitl [S7]; · iexact S7
  isplitl [SZ6]; · iexact SZ6
  iexact SZ7

end Cert.Exchange

end
-- ==== Proof.Exchange.Body.lean ====
/-
# The kernel's body, part after part
-/
module

public import proofs.«01_k».proof.Proof.Exchange.PartsA
public import proofs.«01_k».proof.Proof.Exchange.PartsB

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- What the device holds when its body starts. -/
def bodyPre (f : (cc0_stg3_0 : Ref sig .tc).ty.Contents (Elt F)) : sProp 𝕄 :=
  iprop(ow c (O₀ c) ∗ dutyTok ER (barCell (pa c)) 0 false ∗ dutyTok ER (barCell (pb c)) 0 true ∗ handA c ∗ handB c ∗ atPos ER (barCell c) 0 ∅ 0 ∗ cred (tallyAt (barCell c) () 2) ∗ locReady c 0 ∗ locReady c 1 ∗ locReady c 2 ∗ locReady c 3 ∗ kSrcPts m c 0 ∗ vSrcPts m c 0 ∗ kSrcPts m c 1 ∗ vSrcPts m c 1 ∗ (∃ f, kPts c 0 f) ∗ (∃ f, vPts c 0 f) ∗ (∃ f, kPts c 1 f) ∗ (∃ f, vPts c 1 f) ∗ xPts m c ∗ wqPts m c ∗ woPts m c ∗ (∃ f, sendPts c 0 f) ∗ (∃ f, sendPts c 1 f) ∗ (∃ f, sendPts c 2 f) ∗ (∃ f, sendPts c 3 f) ∗ (∃ f, sendPts c 4 f) ∗ (∃ f, sendPts c 5 f) ∗ (∃ f, sendPts c 6 f) ∗ (∃ f, sendPts c 7 f) ∗ sendReady c 0 ∗ sendReady c 1 ∗ sendReady c 2 ∗ sendReady c 3 ∗ sendReady c 4 ∗ sendReady c 5 ∗ sendReady c 6 ∗ sendReady c 7 ∗ recvReady c 0 ∗ recvReady c 1 ∗ recvReady c 2 ∗ recvReady c 3 ∗ recvReady c 4 ∗ recvReady c 5 ∗ recvReady c 6 ∗ recvReady c 7 ∗ outPts c f)
/-- What it holds when its body ends: all counters zero, every slot with its contents, the result computed. -/
def bodyPost : sProp 𝕄 :=
  iprop(ow c 0 ∗ semVal (barCell c) 0 ∗ semVal (locCell c 0) 0 ∗ semVal (locCell c 1) 0 ∗ semVal (locCell c 2) 0 ∗ semVal (locCell c 3) 0 ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ kSrcPts m c 0 ∗ vSrcPts m c 0 ∗ kSrcPts m c 1 ∗ vSrcPts m c 1 ∗ kPts c 0 (heads (kAt m c) c) ∗ vPts c 0 (heads (vAt m c) c) ∗ kPts c 1 (heads (kAt m c) c) ∗ vPts c 1 (heads (vAt m c) c) ∗ xPts m c ∗ wqPts m c ∗ woPts m c ∗ sendPts c 0 (sendAll m c) ∗ sendPts c 1 (sendAll m c) ∗ sendPts c 2 (sendAll m c) ∗ sendPts c 3 (sendAll m c) ∗ sendPts c 4 (sendAll m c) ∗ sendPts c 5 (sendAll m c) ∗ sendPts c 6 (sendAll m c) ∗ sendPts c 7 (sendAll m c) ∗ commPts c 0 (landed m c) ∗ commPts c 1 (landed m c) ∗ commPts c 2 (landed m c) ∗ commPts c 3 (landed m c) ∗ commPts c 4 (landed m c) ∗ commPts c 5 (landed m c) ∗ commPts c 6 (landed m c) ∗ commPts c 7 (landed m c) ∗ outPts c (outAt m c))

set_option maxHeartbeats 4000000 in
/-- The body takes the one to the other. -/
theorem body_run {Q : _ → sProp 𝕄} (f : (cc0_stg3_0 : Ref sig .tc).ty.Contents (Elt F)) :
    iprop(world m K ∗ bodyPre m c f)
      ⊢ iprop((bodyPost m c -∗ Q ⟨⟩) -∗ wp frame (wpE (defs₀ (F := F)) 𝒱₀ (c : Thread nD τ) none) Set.univ
        (cc0__body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Q) := by
  rw [cc0__body_eq_skeleton]; unfold cc0__body_skel bodyPre bodyPost
  iintro ⟨#Hw, O, BT, BU, HA, HB, BP, BC, LR0, LR1, LR2, LR3, KS0, VS0, KS1, VS1, KF0, VF0, KF1, VF1, X, WQ, WO, SF0, SF1, SF2, SF3, SF4, SF5, SF6, SF7, SR0, SR1, SR2, SR3, SR4, SR5, SR6, SR7, RR0, RR1, RR2, RR3, RR4, RR5, RR6, RR7, OUT⟩ Hk
  rw [wp_bind]
  iapply (part1 m K c ) $$ [LR0 KS0 KF0 LR1 VS0 VF0 LR2 KS1 KF1]
  · isplitr; · iexact Hw
    isplitl [LR0]; · iexact LR0
    isplitl [KS0]; · iexact KS0
    isplitl [KF0]; · iexact KF0
    isplitl [LR1]; · iexact LR1
    isplitl [VS0]; · iexact VS0
    isplitl [VF0]; · iexact VF0
    isplitl [LR2]; · iexact LR2
    isplitl [KS1]; · iexact KS1
    iexact KF1
  iintro %v4 %v5
  iintro ⟨LF0, LF1, LF2⟩
  dsimp only
  rw [wp_bind]
  iapply (part2 m K c v4 v5) $$ [O LR3 VS1 VF1 BT HA BU HB]
  · isplitr; · iexact Hw
    isplitl [O]; · iexact O
    isplitl [LR3]; · iexact LR3
    isplitl [VS1]; · iexact VS1
    isplitl [VF1]; · iexact VF1
    isplitl [BT]; · iexact BT
    isplitl [HA]; · iexact HA
    isplitl [BU]; · iexact BU
    iexact HB
  iintro %r %hr
  iintro ⟨O, LF3⟩
  subst hr
  dsimp only
  rw [wp_bind]
  iapply (part3 m K c ) $$ [X WQ]
  · isplitr; · iexact Hw
    isplitl [X]; · iexact X
    iexact WQ
  iintro %r %hr
  iintro ⟨WQ, X⟩
  subst hr
  dsimp only
  rw [wp_bind]
  iapply (part4 m K c ) $$ [O LF0 LF1]
  · isplitr; · iexact Hw
    isplitl [O]; · iexact O
    isplitl [LF0]; · iexact LF0
    iexact LF1
  iintro %r %hr
  iintro ⟨O, K0, KS0, LZ0, LZ1, V0, VS0⟩
  subst hr
  dsimp only
  rw [wp_bind]
  iapply (part5 m K c ) $$ [K0 V0]
  · isplitr; · iexact Hw
    isplitl [K0]; · iexact K0
    iexact V0
  iintro %r %hr
  iintro ⟨K0, V0⟩
  subst hr
  dsimp only
  rw [wp_bind]
  iapply (part6 m K c v4) $$ [O V0 WO SF0 SF1 BP BC]
  · isplitr; · iexact Hw
    isplitl [O]; · iexact O
    isplitl [V0]; · iexact V0
    isplitl [WO]; · iexact WO
    isplitl [SF0]; · iexact SF0
    isplitl [SF1]; · iexact SF1
    isplitl [BP]; · iexact BP
    iexact BC
  iintro %r %hr
  iintro ⟨O, BZ, NA, NB, S0, S1, V0, WO⟩
  subst hr
  icases (show _ ⊢ _ from Entails.of_eq (show handA (F := F) (pa c) = iprop(_ ∗ _ ∗ _ ∗ _) from rfl)) $$ NA with ⟨CN0, CN1, CN6, CN7⟩
  icases (show _ ⊢ _ from Entails.of_eq (show handB (F := F) (pb c) = iprop(_ ∗ _ ∗ _ ∗ _) from rfl)) $$ NB with ⟨CN2, CN3, CN4, CN5⟩
  rw [wp_bind]
  iapply (part7 m K c v4) $$ [O SR0 S0 CN0 SR1 S1 CN1 X WQ]
  · isplitr; · iexact Hw
    isplitl [O]; · iexact O
    isplitl [SR0]; · iexact SR0
    isplitl [S0]; · iexact S0
    isplitl [CN0]; · iexact CN0
    isplitl [SR1]; · iexact SR1
    isplitl [S1]; · iexact S1
    isplitl [CN1]; · iexact CN1
    isplitl [X]; · iexact X
    iexact WQ
  iintro %r %hr
  iintro ⟨O, SFL0, SFL1, WQ, X⟩
  subst hr
  rw [wp_bind]
  iapply (part8 m K c ) $$ [O LF2 LF3]
  · isplitr; · iexact Hw
    isplitl [O]; · iexact O
    isplitl [LF2]; · iexact LF2
    iexact LF3
  iintro %r %hr
  iintro ⟨O, K1, KS1, LZ2, LZ3, V1, VS1⟩
  subst hr
  dsimp only
  rw [wp_bind]
  iapply (part9 m K c ) $$ [V1 K1]
  · isplitr; · iexact Hw
    isplitl [V1]; · iexact V1
    iexact K1
  iintro %r %hr
  iintro ⟨K1, V1⟩
  subst hr
  dsimp only
  rw [wp_bind]
  iapply (part10 m K c v5) $$ [O V1 WO SF2 SF3 SR2 CN2]
  · isplitr; · iexact Hw
    isplitl [O]; · iexact O
    isplitl [V1]; · iexact V1
    isplitl [WO]; · iexact WO
    isplitl [SF2]; · iexact SF2
    isplitl [SF3]; · iexact SF3
    isplitl [SR2]; · iexact SR2
    iexact CN2
  iintro %r %hr
  iintro ⟨O, S3, SFL2, V1, WO⟩
  subst hr
  rw [wp_bind]
  iapply (part11 m K c v4 v5) $$ [O SR3 S3 CN3 SFL0 RR0]
  · isplitr; · iexact Hw
    isplitl [O]; · iexact O
    isplitl [SR3]; · iexact SR3
    isplitl [S3]; · iexact S3
    isplitl [CN3]; · iexact CN3
    isplitl [SFL0]; · iexact SFL0
    iexact RR0
  iintro %r %hr
  iintro ⟨O, C0, RZ0, S0, SFL3, SZ0⟩
  subst hr
  dsimp only
  rw [wp_bind]
  iapply (part12 m K c v4 v5) $$ [O SF4 SR4 CN4 SFL1]
  · isplitr; · iexact Hw
    isplitl [O]; · iexact O
    isplitl [SF4]; · iexact SF4
    isplitl [SR4]; · iexact SR4
    isplitl [CN4]; · iexact CN4
    iexact SFL1
  iintro %r %hr
  iintro ⟨O, S1, SFL4, SZ1⟩
  subst hr
  rw [wp_bind]
  iapply (part13 m K c v5) $$ [O RR1 SF5 SR5 CN5 SFL2]
  · isplitr; · iexact Hw
    isplitl [O]; · iexact O
    isplitl [RR1]; · iexact RR1
    isplitl [SF5]; · iexact SF5
    isplitl [SR5]; · iexact SR5
    isplitl [CN5]; · iexact CN5
    iexact SFL2
  iintro %r %hr
  iintro ⟨O, C1, RZ1, S2, SFL5, SZ2⟩
  subst hr
  rw [wp_bind]
  iapply (part14 m K c v4 v5) $$ [O RR2 SF6 SR6 CN6]
  · isplitr; · iexact Hw
    isplitl [O]; · iexact O
    isplitl [RR2]; · iexact RR2
    isplitl [SF6]; · iexact SF6
    isplitl [SR6]; · iexact SR6
    iexact CN6
  iintro %r %hr
  iintro ⟨O, C2, RZ2, SFL6⟩
  subst hr
  rw [wp_bind]
  iapply (part15 m K c v4 v5) $$ [O SFL3 RR3 SF7]
  · isplitr; · iexact Hw
    isplitl [O]; · iexact O
    isplitl [SFL3]; · iexact SFL3
    isplitl [RR3]; · iexact RR3
    iexact SF7
  iintro %r %hr
  iintro ⟨O, C3, RZ3, S3, S7, SZ3⟩
  subst hr
  rw [wp_bind]
  iapply (part16 m K c v5 f) $$ [O SR7 S7 CN7 SFL4 RR4 OUT]
  · isplitr; · iexact Hw
    isplitl [O]; · iexact O
    isplitl [SR7]; · iexact SR7
    isplitl [S7]; · iexact S7
    isplitl [CN7]; · iexact CN7
    isplitl [SFL4]; · iexact SFL4
    isplitl [RR4]; · iexact RR4
    iexact OUT
  iintro ⟨O, C4, OUT, RZ4, S4, SFL7, SZ4⟩
  rw [wp_bind]
  iapply (part17 m K c v5 (storeOut f 0 0 (r00 m c))) $$ [O SFL5 RR5 OUT]
  · isplitr; · iexact Hw
    isplitl [O]; · iexact O
    isplitl [SFL5]; · iexact SFL5
    isplitl [RR5]; · iexact RR5
    iexact OUT
  iintro ⟨O, C5, OUT, RZ5, S5, SZ5⟩
  rw [wp_bind]
  iapply (part18 m K c v4 (storeOut (storeOut f 0 0 (r00 m c)) 0 1 (r01 m c))) $$ [O SFL6 RR6 OUT SFL7]
  · isplitr; · iexact Hw
    isplitl [O]; · iexact O
    isplitl [SFL6]; · iexact SFL6
    isplitl [RR6]; · iexact RR6
    isplitl [OUT]; · iexact OUT
    iexact SFL7
  iintro ⟨O, C6, OUT, RZ6, S6, S7, SZ6, SZ7⟩
  simp only [Prog.lift, Prog.bind_op, Prog.bind_ret, Prog.pure_eq_ret]
  iapply (step_waitRecv m K c 7 [] (by decide) _ rfl (commM_credit 7)) $$ [O RR7]
  · isplitr; · iexact Hw
    isplitl [O]; · iexact O
    iexact RR7
  iintro ⟨O, RZ7, C7⟩
  iapply (step_loadComm m c 7 rfl (snd m (partner 7 c) 7) HEq.rfl) $$ [C7]
  · iexact C7
  iintro C7
  iapply (step_out c 1 1 rfl rfl (r11 m c) (heq_of_eq rfl) (storeOut (storeOut (storeOut f 0 0 (r00 m c)) 0 1 (r01 m c)) 1 0 (r10 m c))) $$ [OUT]
  · iexact OUT
  iintro OUT
  rw [wp_ret]; imodintro
  iapply Hk
  isplitl [O]; · iexact O
  isplitl [BZ]; · iexact BZ
  isplitl [LZ0]; · iexact LZ0
  isplitl [LZ1]; · iexact LZ1
  isplitl [LZ2]; · iexact LZ2
  isplitl [LZ3]; · iexact LZ3
  isplitl [SZ0]; · iexact SZ0
  isplitl [SZ1]; · iexact SZ1
  isplitl [SZ2]; · iexact SZ2
  isplitl [SZ3]; · iexact SZ3
  isplitl [SZ4]; · iexact SZ4
  isplitl [SZ5]; · iexact SZ5
  isplitl [SZ6]; · iexact SZ6
  isplitl [SZ7]; · iexact SZ7
  isplitl [RZ0]; · iexact RZ0
  isplitl [RZ1]; · iexact RZ1
  isplitl [RZ2]; · iexact RZ2
  isplitl [RZ3]; · iexact RZ3
  isplitl [RZ4]; · iexact RZ4
  isplitl [RZ5]; · iexact RZ5
  isplitl [RZ6]; · iexact RZ6
  isplitl [RZ7]; · iexact RZ7
  isplitl [KS0]; · iexact KS0
  isplitl [VS0]; · iexact VS0
  isplitl [KS1]; · iexact KS1
  isplitl [VS1]; · iexact VS1
  isplitl [K0]; · iexact K0
  isplitl [V0]; · iexact V0
  isplitl [K1]; · iexact K1
  isplitl [V1]; · iexact V1
  isplitl [X]; · iexact X
  isplitl [WQ]; · iexact WQ
  isplitl [WO]; · iexact WO
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  rw [show outAt m c = storeOut (storeOut (storeOut (storeOut f 0 0 (r00 m c)) 0 1 (r01 m c)) 1 0 (r10 m c)) 1 1 (r11 m c) from (four_stores f (halves m c)).symm]
  iexact OUT

end Cert.Exchange

end
-- ==== Proof.Exchange.Ghost.lean ====
/-
# The ghost state: allocated once for the four devices, then dealt out
-/
module

public import proofs.«01_k».proof.Proof.Exchange.Body
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin2 (Φ : Fin 2 → sProp 𝕄) : bigSep Finset.univ Φ = iprop(Φ 0 ∗ Φ 1) := bigSep_univ_eq_bigSepL [0, 1] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- Over a device's cells: the barrier's, the local ones, the send ones, the receive ones. -/
theorem bigSep_CI (Φ : CI → sProp 𝕄) : bigSep Finset.univ Φ
    = iprop(Φ iBar ∗ (bigSep Finset.univ fun j => Φ (iLoc j)) ∗ (bigSep Finset.univ fun k => Φ (iSnd k)) ∗ bigSep Finset.univ fun k => Φ (iRcv k)) := by
  rw [BI.bigSep_univ_sum, BI.bigSep_univ_sum, BI.bigSep_univ_sum, Finset.univ_unique, bigSep_singleton]; rfl

/-! ## Cells and tokens -/

theorem kind_csem (i : CI) : kindOf (csem i) = match i with | .inl _ => .bar | .inr (.inl j) => .loc j | .inr (.inr (.inl k)) => .snd k | .inr (.inr (.inr k)) => .rcv k := by
  rcases i with _ | j | k | k
  · exact kind_bar
  · exact kind_loc j
  · exact kind_snd k
  · exact kind_rcv k
theorem csem_injective : Function.Injective csem := by
  intro i i' h
  have h := congrArg kindOf h
  rw [kind_csem, kind_csem] at h
  rcases i with _ | j | k | k <;> rcases i' with _ | j' | k' | k' <;> first | rfl | (cases h; rfl) | cases h
theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]
/-- All cells of all devices. -/
def allCells : Finset (GSem nD τ sig) := Finset.univ.map ⟨kcell, kcell_injective⟩

/-- A device's duty tokens: two of its barrier cell, one of each of its other cells. -/
abbrev TI : Type := Bool ⊕ (Fin 4 ⊕ (Fin 8 ⊕ Fin 8))
abbrev tokOf (x : Dev nD × TI) : GSem nD τ sig × ℕ × Bool :=
  match x.2 with | .inl b => (barCell x.1, 0, b) | .inr i => (kcell (x.1, .inr i), 0, false)
theorem tokOf_injective : Function.Injective tokOf := by
  rintro ⟨c, i⟩ ⟨c', i'⟩ h
  rcases i with b | i <;> rcases i' with b' | i'
  · have h1 : c = c' := congrArg (fun x : GSem nD τ sig × ℕ × Bool => x.1.1.1) h
    have h2 : b = b' := congrArg (fun x : GSem nD τ sig × ℕ × Bool => x.2.2) h
    rw [h1, h2]
  · have := kcell_injective (a₁ := (c, iBar)) (a₂ := (c', .inr i')) (congrArg Prod.fst h)
    cases this
  · have := kcell_injective (a₁ := (c, .inr i)) (a₂ := (c', iBar)) (congrArg Prod.fst h)
    cases this
  · have := kcell_injective (a₁ := (c, .inr i)) (a₂ := (c', .inr i')) (congrArg Prod.fst h)
    cases this; rfl
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 :=
  iprop((dutyTok ER (barCell c) 0 false ∗ dutyTok ER (barCell c) 0 true) ∗ (bigSep Finset.univ fun j => dutyTok ER (locCell c j) 0 false)
    ∗ (bigSep Finset.univ fun k => dutyTok ER (sendCell c k) 0 false) ∗ bigSep Finset.univ fun k => dutyTok ER (recvCell c k) 0 false)
/-- The tokens of the duties a device pays. -/
def payToks (c : Dev nD) : sProp 𝕄 :=
  iprop((dutyTok ER (barCell (pa c)) 0 false ∗ dutyTok ER (barCell (pb c)) 0 true) ∗ (bigSep Finset.univ fun j => dutyTok ER (locCell c j) 0 false)
    ∗ (bigSep Finset.univ fun k => dutyTok ER (sendCell c k) 0 false) ∗ bigSep Finset.univ fun k => dutyTok ER (recvCell (partner k c) k) 0 false)

/-- What the launch deals each device. -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)
/-- A device's positions and the tokens it pays with. -/
def linear (c : Dev nD) : sProp 𝕄 := iprop((bigSep Finset.univ fun i : CI => atPos ER (kcell (c, i)) 0 ∅ 0) ∗ payToks c)
/-- What each device has once all cells are allocated. -/
def G' (c : Dev nD) : sProp 𝕄 := iprop(∃ K, records m K ∗ linear c)

omit [FloatOps F] in
theorem toks_eq (c : Dev nD) : (bigSep Finset.univ fun i : TI => (dutyTok ER (tokOf (c, i)).1 (tokOf (c, i)).2.1 (tokOf (c, i)).2.2 : sProp 𝕄)) = toks c := by
  unfold toks
  rw [BI.bigSep_univ_sum, BI.bigSep_univ_sum, BI.bigSep_univ_sum, bigSep_univ_eq_bigSepL [false, true] (by decide) (by decide)]; rfl

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The kernel's own semaphores: the twenty DMA ones after the pipeline's four. -/
abbrev osem : Fin 20 → SemLoc sig := fun i => .dma ⟨4 + i.val, by have := i.isLt; show 4 + i.val < 24; omega⟩
theorem ownSemFacts : Pipeline.OwnSemFacts cfg0.spec osem := by decide

/-- The counters of a device's own cells, all zero. -/
def zeros (c : Dev nD) : sProp 𝕄 :=
  iprop((bigSep Finset.univ fun j => semVal (locCell c j) 0) ∗ (bigSep Finset.univ fun k => semVal (sendCell c k) 0) ∗ bigSep Finset.univ fun k => semVal (recvCell c k) 0)

/-- The twenty semaphores, by what they are for. -/
def osemEquiv : Fin 4 ⊕ (Fin 8 ⊕ Fin 8) ≃ Fin 20 := (Equiv.sumCongr (Equiv.refl _) finSumFinEquiv).trans finSumFinEquiv
omit [FloatOps F] in
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros
  rw [BI.bigSep_univ_equiv osemEquiv, BI.bigSep_univ_sum, BI.bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_CI]; unfold zeros
  iintro ⟨HO, HB⟩
  isplitl [HB]; · iexact HB
  iexact HO

/-! ## The allocation -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

def paE : Dev nD ≃ Dev nD := ⟨pa, pa, pa_pa, pa_pa⟩
def pbE : Dev nD ≃ Dev nD := ⟨pb, pb, pb_pb, pb_pb⟩
def partnerE : Dev nD × Fin 8 ≃ Dev nD × Fin 8 :=
  ⟨fun x => (partner x.2 x.1, x.2), fun x => (partner x.2 x.1, x.2), fun x => Prod.ext (partner_partner x.2 x.1) rfl, fun x => Prod.ext (partner_partner x.2 x.1) rfl⟩

omit [FloatOps F] in
/-- A receipt's token goes to the device whose transfer it is. -/
theorem recvToks_dealt : (bigSep Finset.univ fun c : Dev nD => bigSep Finset.univ fun k : Fin 8 => (dutyTok ER (recvCell c k) 0 false : sProp 𝕄))
    = bigSep Finset.univ fun c : Dev nD => bigSep Finset.univ fun k : Fin 8 => dutyTok ER (recvCell (partner k c) k) 0 false := by
  rw [← bigSep_univ_prod (fun x : Dev nD × Fin 8 => (dutyTok ER (recvCell x.1 x.2) 0 false : sProp 𝕄)), BI.bigSep_univ_equiv partnerE,
    bigSep_univ_prod]; rfl

omit [FloatOps F] in
theorem toks_dealt : (bigSep Finset.univ fun c : Dev nD => (toks c : sProp 𝕄)) ⊢ bigSep Finset.univ fun c : Dev nD => payToks c := by
  unfold toks payToks
  simp only [bigSep_sep']
  rw [recvToks_dealt,
    BI.bigSep_univ_equiv paE (fun c : Dev nD => (dutyTok ER (barCell c) 0 false : sProp 𝕄)),
    BI.bigSep_univ_equiv pbE (fun c : Dev nD => (dutyTok ER (barCell c) 0 true : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m K ∗ linear c) ⊢ G' m c := by
  unfold G'
  iintro H
  iexists K; iexact H

theorem regroup :
    (bigSep Finset.univ fun c : Dev nD => iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun x : Dev nD × CI => iprop(∃ κ : ℕ, cellInv ER (Rd m) κ (kcell x))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (Rd m) κ (kcell x) : sProp 𝕄))) $$ HI
  icases HK with ⟨%K, #HI⟩
  ihave Htk := (toks_dealt (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CI => (atPos ER (kcell (c, i)) 0 ∅ 0 : sProp 𝕄)) payToks).symm).trans
      (bigSep_mono fun c _ => show _ ⊢ linear c from BI.Entails.refl _))
    isplitl [Hat]; · iexact Hat
    iexact Htk

/-- All cells of all devices allocated under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem bar_eq_iff {a b : Dev nD} : Iff (barCell a = barCell b) (a = b) :=
  ⟨fun h => congrArg (fun g : GSem nD τ sig => g.1.1) h, fun h => h ▸ rfl⟩
theorem recv_eq_iff {a b : Dev nD} {k k' : Fin 8} : Iff (recvCell a k = recvCell b k') (a = b ∧ k = k') := by
  refine ⟨fun h => ?_, fun ⟨h, h'⟩ => by rw [h, h']⟩
  have := kcell_injective (a₁ := (a, iRcv k)) (a₂ := (b, iRcv k')) h
  cases this; exact ⟨rfl, rfl⟩
theorem recv_ne_bar {a b : Dev nD} {k : Fin 8} : recvCell a k ≠ barCell b := fun h => by
  have := kcell_injective (a₁ := (a, iRcv k)) (a₂ := (b, iBar)) h
  cases this

theorem owedL_bar (d c : Dev nD) (l : List (Fin 8)) : owedL d l (barCell c) () = 0 := by
  by_contra h
  obtain ⟨k, -, e⟩ := owedL_pos (Nat.pos_of_ne_zero h)
  exact recv_ne_bar e.symm
theorem owedL_recv (d c : Dev nD) (k : Fin 8) (l : List (Fin 8)) (hl : l.Nodup) : owedL d l (recvCell c k) () = if k ∈ l ∧ d = partner k c then N else 0 := by
  induction l with
  | nil => rw [if_neg (fun h => by cases h.1)]; rfl
  | cons k' l ih =>
    show (owedL d l + tallyAt (recvCell (partner k' d) k') () N) (recvCell c k) () = _
    rw [Pi.add_apply, Finsupp.add_apply, ih (List.nodup_cons.mp hl).2, tallyAt_apply]
    have hn := (List.nodup_cons.mp hl).1
    by_cases hk : k = k'
    · subst hk
      rw [if_neg (fun h => hn h.1), Nat.zero_add]
      by_cases hd : d = partner k c
      · rw [if_pos ⟨by rw [hd, partner_partner], rfl⟩, if_pos ⟨List.mem_cons_self, hd⟩]
      · rw [if_neg (fun h => hd (by rw [(recv_eq_iff.mp h.1).1, partner_partner])), if_neg (fun h => hd h.2)]
    · rw [if_neg (fun h : recvCell c k = _ ∧ _ => hk (recv_eq_iff.mp h.1).2), Nat.add_zero]
      by_cases h : k ∈ l ∧ d = partner k c
      · rw [if_pos h, if_pos ⟨List.mem_cons_of_mem _ h.1, h.2⟩]
      · rw [if_neg h, if_neg (fun h' => h ⟨(List.mem_cons.mp h'.1).resolve_left hk, h'.2⟩)]

theorem owed_bar (d c : Dev nD) : O₀ d (barCell c) () = (if d = pb c then 1 else 0) + (if d = pa c then 1 else 0) := by
  unfold O₀ O₁
  rw [Pi.add_apply, Finsupp.add_apply, Pi.add_apply, Finsupp.add_apply, owedL_bar, tallyAt_apply, tallyAt_apply, Nat.zero_add]
  congr 1
  · by_cases h : d = pb c
    · rw [if_pos ⟨by rw [h, pb_pb], rfl⟩, if_pos h]
    · rw [if_neg (fun h' => h (by rw [bar_eq_iff.mp h'.1, pb_pb])), if_neg h]
  · by_cases h : d = pa c
    · rw [if_pos ⟨by rw [h, pa_pa], rfl⟩, if_pos h]
    · rw [if_neg (fun h' => h (by rw [bar_eq_iff.mp h'.1, pa_pa])), if_neg h]
theorem owed_recv (d c : Dev nD) (k : Fin 8) : O₀ d (recvCell c k) () = if d = partner k c then N else 0 := by
  unfold O₀ O₁
  rw [Pi.add_apply, Finsupp.add_apply, Pi.add_apply, Finsupp.add_apply, owedL_recv d c k _ (by decide),
    tallyAt_ne_cell recv_ne_bar, tallyAt_ne_cell recv_ne_bar, Finsupp.zero_apply, Nat.add_zero, Nat.add_zero]
  have hk : k ∈ [0, 1, 2, 3, 4, 5, 6, (7 : Fin 8)] := by revert k; decide
  by_cases h : d = partner k c
  · rw [if_pos ⟨hk, h⟩, if_pos h]
  · rw [if_neg (fun h' => h h'.2), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]
theorem launch_recv (c : Dev nD) (k : Fin 8) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (partner k c) fun _ => N,
    if_pos (Finset.mem_univ _)]

/-- The receive semaphores among all semaphores. -/
def recvEmb : Fin 8 ↪ SemLoc sig := ⟨fun k => .dma (recvQ k), fun k k' h => (recv_eq_iff (a := 0) (b := 0).mp (congrArg (fun s => (((0 : Dev nD) : Thread nD τ), s)) h)).2⟩

omit [FloatOps F] in
theorem creds (c : Dev nD) :
    (Pipeline.launchCred O₀ c : sProp 𝕄) ⊢ iprop(cred (tallyAt (barCell c) () 2) ∗ bigSep Finset.univ fun k => cred (tallyAt (recvCell c k) () N)) := by
  unfold Pipeline.launchCred
  rw [bigSep_univ_at _ (SemLoc.reg barS), launch_bar]
  have key : (bigSep (Finset.univ.map recvEmb) fun sm : SemLoc sig => (cred (tallyOn ((c : Thread nD τ), sm) (launchCredit (Pipeline.owing O₀) 0 ((c : Thread nD τ), sm))) : sProp 𝕄))
      = bigSep Finset.univ fun k => cred (tallyAt (recvCell c k) () N) := by
    rw [BI.bigSep_map]
    exact bigSep_congr fun k _ => by rw [← launch_recv]; rfl
  rw [← key]
  refine sep_mono_right (BI.bigSep_subset fun s hs => ?_)
  obtain ⟨k, -, rfl⟩ := Finset.mem_map.mp hs
  exact Finset.mem_erase.mpr ⟨fun h => (by cases h), Finset.mem_univ _⟩

end Cert.Exchange

end
-- ==== Proof.Exchange.Launch.lean ====
/-
# The launch: the body's obligation and the run of the four devices
-/
module

public import proofs.«01_k».proof.Proof.Exchange.Ghost
public import Idealize.ShloMosaic.Lib.Pipeline.CollectiveSegs

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers cut into the parts the schedule moves, and put together again -/

/-- The elements of the two operands in HBM that the device does not copy. -/
def kRest (c : Dev nD) : sProp 𝕄 := ((c : Thread nD τ).loc main_arg2) ↦[(Finset.univ \ srcSet 0 c) \ srcSet 1 c]{fullShare} (kAt m c)
def vRest (c : Dev nD) : sProp 𝕄 := ((c : Thread nD τ).loc main_arg3) ↦[(Finset.univ \ srcSet 0 c) \ srcSet 1 c]{fullShare} (vAt m c)
def kWhole (c : Dev nD) : sProp 𝕄 := ((c : Thread nD τ).loc main_arg2) ↦{fullShare} (kAt m c)
def vWhole (c : Dev nD) : sProp 𝕄 := ((c : Thread nD τ).loc main_arg3) ↦{fullShare} (vAt m c)

omit [FloatOps F] in
theorem k_cut (c : Dev nD) : kWhole m c ⊣⊢ iprop(kSrcPts m c 0 ∗ kSrcPts m c 1 ∗ kRest m c) := by
  unfold kWhole kSrcPts kRest
  exact (pointsTo_split_subset (Finset.subset_univ (srcSet 0 c))).trans (sep_congr_right (pointsTo_split_subset (src_sub c)))
omit [FloatOps F] in
theorem v_cut (c : Dev nD) : vWhole m c ⊣⊢ iprop(vSrcPts m c 0 ∗ vSrcPts m c 1 ∗ vRest m c) := by
  unfold vWhole vSrcPts vRest
  exact (pointsTo_split_subset (Finset.subset_univ (srcSet 0 c))).trans (sep_congr_right (pointsTo_split_subset (src_sub c)))

/-- The four scratch buffers, whole, whatever they hold. -/
def scr0 (c : Dev nD) : sProp 𝕄 := iprop(∃ f : Buf (Elt F) ((c : Thread nD τ).loc cc0_scratch0), ((c : Thread nD τ).loc cc0_scratch0) ↦{fullShare} f)
def scr1 (c : Dev nD) : sProp 𝕄 := iprop(∃ f : Buf (Elt F) ((c : Thread nD τ).loc cc0_scratch1), ((c : Thread nD τ).loc cc0_scratch1) ↦{fullShare} f)
def scr2 (c : Dev nD) : sProp 𝕄 := iprop(∃ f : Buf (Elt F) ((c : Thread nD τ).loc cc0_scratch2), ((c : Thread nD τ).loc cc0_scratch2) ↦{fullShare} f)
def scr3 (c : Dev nD) : sProp 𝕄 := iprop(∃ f : Buf (Elt F) ((c : Thread nD τ).loc cc0_scratch3), ((c : Thread nD τ).loc cc0_scratch3) ↦{fullShare} f)

omit [FloatOps F] in
theorem k_whole (c : Dev nD) (f : (cc0_scratch0 : Ref sig .tc).ty.Contents (Elt F)) :
    (((c : Thread nD τ).loc cc0_scratch0) ↦{fullShare} f : sProp 𝕄) = iprop(kPts c 0 f ∗ kPts c 1 f) := by
  rw [← bigSep_fin2 fun b => kPts c b f]
  have h := pointsTo_biUnion (Ix := Unit) (Name := ℕ) (U := UU) (Lvl := ℕ) (ℓ := (c : Thread nD τ).loc cc0_scratch0) (q := fullShare) (f := f) Finset.univ kvSet kv_disjoint
  rw [kv_cover] at h; exact h
omit [FloatOps F] in
theorem v_whole (c : Dev nD) (f : (cc0_scratch1 : Ref sig .tc).ty.Contents (Elt F)) :
    (((c : Thread nD τ).loc cc0_scratch1) ↦{fullShare} f : sProp 𝕄) = iprop(vPts c 0 f ∗ vPts c 1 f) := by
  rw [← bigSep_fin2 fun b => vPts c b f]
  have h := pointsTo_biUnion (Ix := Unit) (Name := ℕ) (U := UU) (Lvl := ℕ) (ℓ := (c : Thread nD τ).loc cc0_scratch1) (q := fullShare) (f := f) Finset.univ kvSet kv_disjoint
  rw [kv_cover] at h; exact h
omit [FloatOps F] in
theorem send_whole (c : Dev nD) (f : (cc0_scratch2 : Ref sig .tc).ty.Contents (Elt F)) :
    (((c : Thread nD τ).loc cc0_scratch2) ↦{fullShare} f : sProp 𝕄) = bigSep Finset.univ fun k => sendPts c k f := by
  have h := pointsTo_biUnion (Ix := Unit) (Name := ℕ) (U := UU) (Lvl := ℕ) (ℓ := (c : Thread nD τ).loc cc0_scratch2) (q := fullShare) (f := f) Finset.univ slotSet slots_disjoint
  rw [slots_cover] at h; exact h
omit [FloatOps F] in
theorem comm_whole (c : Dev nD) (f : (cc0_scratch3 : Ref sig .tc).ty.Contents (Elt F)) :
    (((c : Thread nD τ).loc cc0_scratch3) ↦{fullShare} f : sProp 𝕄) = bigSep Finset.univ fun k => commPts c k f := by
  have h := pointsTo_biUnion (Ix := Unit) (Name := ℕ) (U := UU) (Lvl := ℕ) (ℓ := (c : Thread nD τ).loc cc0_scratch3) (q := fullShare) (f := f) Finset.univ slotSet slots_disjoint
  rw [slots_cover] at h; exact h

/-! ## The pipeline's proof data -/

/-- What a device starts from besides its scratch buffers. -/
def start (c : Dev nD) : sProp 𝕄 :=
  iprop(G' m c ∗ (cred (tallyAt (barCell c) () 2) ∗ bigSep Finset.univ fun k => cred (tallyAt (recvCell c k) () N)) ∗ levAts L lv ∗ kWhole m c ∗ vWhole m c)
def Φ₀ (c : Dev nD) : sProp 𝕄 := iprop(start m c ∗ scr0 c ∗ scr1 c ∗ scr2 c ∗ scr3 c)
/-- What it ends with: every counter at zero, the operands unchanged, its scratch buffers. -/
def Φ₁ (c : Dev nD) : sProp 𝕄 := iprop(semVal (barCell c) 0 ∗ zeros c ∗ kWhole m c ∗ vWhole m c ∗ scr0 c ∗ scr1 c ∗ scr2 c ∗ scr3 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => wostg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 : (cfg0.win 0).fetch t₀ = true := rfl
theorem fetch_1 : (cfg0.win 1).fetch t₀ = true := rfl
theorem fetch_2 : (cfg0.win 2).fetch t₀ = true := rfl

/-- What the device holds outside the body's own account. -/
def aside (c : Dev nD) : sProp 𝕄 := iprop(kRest m c ∗ vRest m c)

set_option maxHeartbeats 4000000 in
/-- The body's starting account, assembled from what the launch hands over. -/
theorem body_enter (c : Dev nD) (f : (cc0_stg3_0 : Ref sig .tc).ty.Contents (Elt F)) :
    iprop(Φ₀ m c ∗ ow c (O₀ c) ∗ xPts m c ∗ wqPts m c ∗ woPts m c ∗ outPts c f)
      ⊢ iprop(∃ K, world m K ∗ bodyPre m c f ∗ aside m c) := by
  unfold Φ₀ start G' linear payToks
  simp only [bigSep_CI, bigSep_fin8, bigSep_fin4]
  iintro ⟨⟨⟨⟨%K, #HR, ⟨BP, ⟨AL0, AL1, AL2, AL3⟩, ⟨AS0, AS1, AS2, AS3, AS4, AS5, AS6, AS7⟩, AR0, AR1, AR2, AR3, AR4, AR5, AR6, AR7⟩, ⟨BT, BU⟩, ⟨TL0, TL1, TL2, TL3⟩, ⟨TS0, TS1, TS2, TS3, TS4, TS5, TS6, TS7⟩, TR0, TR1, TR2, TR3, TR4, TR5, TR6, TR7⟩, ⟨BC, CR0, CR1, CR2, CR3, CR4, CR5, CR6, CR7⟩, #HL, HK, HV⟩,
    HS0, HS1, HS2, HS3⟩, O, X, WQ, WO, OUT⟩
  iexists K
  isplitr
  · unfold world; isplitl; · iexact HR
    iexact HL
  icases (k_cut m c).1 $$ HK with ⟨KS0, KS1, KR⟩
  icases (v_cut m c).1 $$ HV with ⟨VS0, VS1, VR⟩
  unfold scr0 scr1 scr2 scr3
  icases HS0 with ⟨%f0, HS0⟩
  icases HS1 with ⟨%f1, HS1⟩
  icases HS2 with ⟨%f2, HS2⟩
  icases HS3 with ⟨%f3, HS3⟩
  icases (Entails.of_eq (k_whole c f0)) $$ HS0 with ⟨KF0, KF1⟩
  icases (Entails.of_eq (v_whole c f1)) $$ HS1 with ⟨VF0, VF1⟩
  icases (Entails.of_eq ((send_whole c f2).trans (bigSep_fin8 _))) $$ HS2 with ⟨SF0, SF1, SF2, SF3, SF4, SF5, SF6, SF7⟩
  icases (Entails.of_eq ((comm_whole c f3).trans (bigSep_fin8 _))) $$ HS3 with ⟨CF0, CF1, CF2, CF3, CF4, CF5, CF6, CF7⟩
  unfold bodyPre handA handB locReady sendReady recvReady aside
  isplitr [KR VR]
  · isplitl [O]; · iexact O
    isplitl [BT]; · iexact BT
    isplitl [BU]; · iexact BU
    isplitl [CF0 CF1 CF6 CF7]
    · isplitl [CF0]; · (iexists f3; iexact CF0)
      isplitl [CF1]; · (iexists f3; iexact CF1)
      isplitl [CF6]; · (iexists f3; iexact CF6)
      iexists f3; iexact CF7
    isplitl [CF2 CF3 CF4 CF5]
    · isplitl [CF2]; · (iexists f3; iexact CF2)
      isplitl [CF3]; · (iexists f3; iexact CF3)
      isplitl [CF4]; · (iexists f3; iexact CF4)
      iexists f3; iexact CF5
    isplitl [BP]; · iexact BP
    isplitl [BC]; · iexact BC
    isplitl [AL0 TL0]
    · isplitl [AL0]; · iexact AL0
      iexact TL0
    isplitl [AL1 TL1]
    · isplitl [AL1]; · iexact AL1
      iexact TL1
    isplitl [AL2 TL2]
    · isplitl [AL2]; · iexact AL2
      iexact TL2
    isplitl [AL3 TL3]
    · isplitl [AL3]; · iexact AL3
      iexact TL3
    isplitl [KS0]; · iexact KS0
    isplitl [VS0]; · iexact VS0
    isplitl [KS1]; · iexact KS1
    isplitl [VS1]; · iexact VS1
    isplitl [KF0]; · (iexists f0; iexact KF0)
    isplitl [VF0]; · (iexists f1; iexact VF0)
    isplitl [KF1]; · (iexists f0; iexact KF1)
    isplitl [VF1]; · (iexists f1; iexact VF1)
    isplitl [X]; · iexact X
    isplitl [WQ]; · iexact WQ
    isplitl [WO]; · iexact WO
    isplitl [SF0]; · (iexists f2; iexact SF0)
    isplitl [SF1]; · (iexists f2; iexact SF1)
    isplitl [SF2]; · (iexists f2; iexact SF2)
    isplitl [SF3]; · (iexists f2; iexact SF3)
    isplitl [SF4]; · (iexists f2; iexact SF4)
    isplitl [SF5]; · (iexists f2; iexact SF5)
    isplitl [SF6]; · (iexists f2; iexact SF6)
    isplitl [SF7]; · (iexists f2; iexact SF7)
    isplitl [AS0 TS0 TR0]
    · isplitl [AS0]; · iexact AS0
      isplitl [TS0]; · iexact TS0
      iexact TR0
    isplitl [AS1 TS1 TR1]
    · isplitl [AS1]; · iexact AS1
      isplitl [TS1]; · iexact TS1
      iexact TR1
    isplitl [AS2 TS2 TR2]
    · isplitl [AS2]; · iexact AS2
      isplitl [TS2]; · iexact TS2
      iexact TR2
    isplitl [AS3 TS3 TR3]
    · isplitl [AS3]; · iexact AS3
      isplitl [TS3]; · iexact TS3
      iexact TR3
    isplitl [AS4 TS4 TR4]
    · isplitl [AS4]; · iexact AS4
      isplitl [TS4]; · iexact TS4
      iexact TR4
    isplitl [AS5 TS5 TR5]
    · isplitl [AS5]; · iexact AS5
      isplitl [TS5]; · iexact TS5
      iexact TR5
    isplitl [AS6 TS6 TR6]
    · isplitl [AS6]; · iexact AS6
      isplitl [TS6]; · iexact TS6
      iexact TR6
    isplitl [AS7 TS7 TR7]
    · isplitl [AS7]; · iexact AS7
      isplitl [TS7]; · iexact TS7
      iexact TR7
    isplitl [AR0 CR0]
    · isplitl [AR0]; · iexact AR0
      iexact CR0
    isplitl [AR1 CR1]
    · isplitl [AR1]; · iexact AR1
      iexact CR1
    isplitl [AR2 CR2]
    · isplitl [AR2]; · iexact AR2
      iexact CR2
    isplitl [AR3 CR3]
    · isplitl [AR3]; · iexact AR3
      iexact CR3
    isplitl [AR4 CR4]
    · isplitl [AR4]; · iexact AR4
      iexact CR4
    isplitl [AR5 CR5]
    · isplitl [AR5]; · iexact AR5
      iexact CR5
    isplitl [AR6 CR6]
    · isplitl [AR6]; · iexact AR6
      iexact CR6
    isplitl [AR7 CR7]
    · isplitl [AR7]; · iexact AR7
      iexact CR7
    iexact OUT
  · isplitl [KR]; · iexact KR
    iexact VR

set_option maxHeartbeats 4000000 in
/-- The body's final account, put together. -/
theorem body_exit (c : Dev nD) :
    iprop(bodyPost m c ∗ aside m c)
      ⊢ iprop(Φ₁ m c ∗ ow c 0 ∗ xPts m c ∗ wqPts m c ∗ woPts m c ∗ outPts c (outAt m c)) := by
  unfold Φ₁ bodyPost aside zeros
  simp only [bigSep_fin8, bigSep_fin4]
  iintro ⟨⟨O, BZ, LZ0, LZ1, LZ2, LZ3, SZ0, SZ1, SZ2, SZ3, SZ4, SZ5, SZ6, SZ7, RZ0, RZ1, RZ2, RZ3, RZ4, RZ5, RZ6, RZ7, KS0, VS0, KS1, VS1, K0, V0, K1, V1, X, WQ, WO, S0, S1, S2, S3, S4, S5, S6, S7, C0, C1, C2, C3, C4, C5, C6, C7, OUT⟩, KR, VR⟩
  isplitr [O X WQ WO OUT]
  · isplitl [BZ]; · iexact BZ
    isplitl [LZ0 LZ1 LZ2 LZ3 SZ0 SZ1 SZ2 SZ3 SZ4 SZ5 SZ6 SZ7 RZ0 RZ1 RZ2 RZ3 RZ4 RZ5 RZ6 RZ7]
    · isplitl [LZ0 LZ1 LZ2 LZ3]
      · isplitl [LZ0]; · iexact LZ0
        isplitl [LZ1]; · iexact LZ1
        isplitl [LZ2]; · iexact LZ2
        iexact LZ3
      isplitl [SZ0 SZ1 SZ2 SZ3 SZ4 SZ5 SZ6 SZ7]
      · isplitl [SZ0]; · iexact SZ0
        isplitl [SZ1]; · iexact SZ1
        isplitl [SZ2]; · iexact SZ2
        isplitl [SZ3]; · iexact SZ3
        isplitl [SZ4]; · iexact SZ4
        isplitl [SZ5]; · iexact SZ5
        isplitl [SZ6]; · iexact SZ6
        iexact SZ7
      isplitl [RZ0]; · iexact RZ0
      isplitl [RZ1]; · iexact RZ1
      isplitl [RZ2]; · iexact RZ2
      isplitl [RZ3]; · iexact RZ3
      isplitl [RZ4]; · iexact RZ4
      isplitl [RZ5]; · iexact RZ5
      isplitl [RZ6]; · iexact RZ6
      iexact RZ7
    isplitl [KS0 KS1 KR]
    · iapply (k_cut m c).2
      isplitl [KS0]; · iexact KS0
      isplitl [KS1]; · iexact KS1
      iexact KR
    isplitl [VS0 VS1 VR]
    · iapply (v_cut m c).2
      isplitl [VS0]; · iexact VS0
      isplitl [VS1]; · iexact VS1
      iexact VR
    isplitl [K0 K1]
    · unfold scr0; iexists (heads (kAt m c) c); iapply (Entails.of_eq (k_whole c _).symm)
      isplitl [K0]; · iexact K0
      iexact K1
    isplitl [V0 V1]
    · unfold scr1; iexists (heads (vAt m c) c); iapply (Entails.of_eq (v_whole c _).symm)
      isplitl [V0]; · iexact V0
      iexact V1
    isplitl [S0 S1 S2 S3 S4 S5 S6 S7]
    · unfold scr2; iexists (sendAll m c); iapply (Entails.of_eq ((send_whole c _).trans (bigSep_fin8 _)).symm)
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · unfold scr3; iexists (landed m c); iapply (Entails.of_eq ((comm_whole c _).trans (bigSep_fin8 _)).symm)
      isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
  isplitl [O]; · iexact O
  isplitl [X]; · iexact X
  isplitl [WQ]; · iexact WQ
  isplitl [WO]; · iexact WO
  iexact OUT

def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost' (c : Dev nD) : sProp 𝕄 :=
  iprop(Φ₁ m c ∗ (dats m ρ 0 c).owesAt () t₀.succ ∗ stg c cc0_stg0_0 (xstg m c) ∗ stg c cc0_stg1_0 (wqstg m c) ∗ stg c cc0_stg2_0 (wostg m c) ∗ stg c cc0_stg3_0 (outAt m c))

/-- The body from the pipeline's account to the pipeline's account. -/
theorem sound_body (c : Dev nD) :
    bodyPre' m ρ c ⊢ wp frame (wpE (defs₀ (F := F)) 𝒱₀ (c : Thread nD τ) none) Set.univ
      (cc0__body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) (fun _ => bodyPost' m ρ c) := by
  unfold bodyPre'
  iintro ⟨HΦ, Ho, ⟨%d0, %g0, %hg0, X⟩, ⟨%d1, %g1, %hg1, WQ⟩, ⟨%d2, %g2, %hg2, WO⟩, ⟨%d3, %g3, %hg3, OUT⟩⟩
  have h0 : g0 = xstg m c := by rw [hg0]; unfold Dat.before; rw [if_pos fetch_0]; rfl
  have h1 : g1 = wqstg m c := by rw [hg1]; unfold Dat.before; rw [if_pos fetch_1]; rfl
  have h2 : g2 = wostg m c := by rw [hg2]; unfold Dat.before; rw [if_pos fetch_2]; rfl
  subst h0 h1 h2
  unfold Dat.owesAt Pipeline.owesWithin
  icases Ho with ⟨%W, %hW, HO⟩
  rw [show (dats m ρ 0 c).owed t₀.castSucc = O₀ c from rfl]
  icases (body_enter m c g3) $$ [HΦ HO X WQ WO OUT] with ⟨%K, #Hw, Hpre, Hrest⟩
  · isplitl [HΦ]; · iexact HΦ
    isplitl [HO]; · unfold ow; iexists W; iexact HO
    isplitl [X]; · unfold xPts; iexact X
    isplitl [WQ]; · unfold wqPts; iexact WQ
    isplitl [WO]; · unfold woPts; iexact WO
    unfold outPts; iexact OUT
  iapply (body_run m K c g3) $$ [Hpre]
  · isplitr; · iexact Hw
    iexact Hpre
  iintro Hpost
  icases (body_exit m c) $$ [Hpost Hrest] with ⟨HΦ, O, X, WQ, WO, OUT⟩
  · isplitl [Hpost]; · iexact Hpost
    iexact Hrest
  unfold bodyPost' Dat.owesAt Pipeline.owesWithin
  rw [show (dats m ρ 0 c).owed t₀.succ = 0 from rfl]
  isplitl [HΦ]; · iexact HΦ
  isplitl [O]
  · unfold ow; icases O with ⟨%W', O⟩
    iexists W'
    isplitr; · ipureintro; exact fun _ _ => Or.inl trivial
    iexact O
  isplitl [X]
  · iexists _; isplitr; · (ipureintro; rfl)
    unfold xPts; iexact X
  isplitl [WQ]
  · iexists _; isplitr; · (ipureintro; rfl)
    unfold wqPts; iexact WQ
  isplitl [WO]
  · iexists _; isplitr; · (ipureintro; rfl)
    unfold woPts; iexact WO
  iexists _; isplitr; · (ipureintro; rfl)
  unfold outPts; iexact OUT

set_option maxRecDepth 4000 in
/-- The pipeline's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HK, HV⟩, Hlev, Hcr, -, HG⟩
  ihave Hc := (creds (F := F) c) $$ Hcr
  imodintro
  unfold start kWhole vWhole kAt vAt
  isplitl
  · isplitl [HG]; · iexact HG
    isplitl [Hc]; · iexact Hc
    isplitl [Hlev]; · iexact Hlev
    isplitl [HK]; · iexact HK
    iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr0 scr1 scr2 scr3
  iintro ⟨Hs, -, Hr⟩
  isplitl [Hs]; · iexact Hs
  iexact Hr

/-- What stays with the device after the kernel: the barrier's counter at zero, and the operands unchanged. -/
def left (c : Dev nD) : sProp 𝕄 := iprop(unscopedSems0 c ∗ kWhole m c ∗ vWhole m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ left scr0 scr1 scr2 scr3
  rw [unscopedSems0_eq]
  iintro ⟨HB, HZ, HK, HV, Hr⟩
  isplitl [HB HK HV]
  · isplitl [HB]; · iexact HB
    isplitl [HK]; · iexact HK
    iexact HV
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The operands that are no window's array hold what they held. -/
def kept (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem left_read (c : Dev nD) (s' : Phys nD τ sig (Elt F)) :
    iprop(left m c ∗ emp ∗ SI s') ⊢ (|={Set.univ}=> iprop(⌜kept m c s'.mem⌝ ∗ SI s') : sProp 𝕄) := by
  unfold left kept kWhole vWhole
  iintro ⟨⟨Hu, HK, HV⟩, -, HSI⟩
  icombine HSI HK gives %hk
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hk, Buf.eq_of_forall_mem_univ hv⟩
  iexact HSI

set_option maxRecDepth 8000 in
/-- For any float values, from any memory with zero counters, every weakly fair execution of the four devices terminates. Every
    final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := kept m)
    (hY := left_read m)
    (hQ := fun _ h hs => ⟨fun c => ⟨(h c).1, (h c).2.2.2⟩, sem_eq_zero hs fun c => (h c).2.2.1⟩)

/-- An argument array after the run holds what it held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Exchange

end
-- ==== Proof.Exchange.Frames.lean ====
/-
# The frames: what a run leaves, and both readings of the kernel's text
-/
module

public import proofs.«01_k».proof.Proof.Exchange.Launch
public import proofs.«01_k».proof.Defs
public import proofs.«01_k».proof.Proof.Gen.Kernel
public import Idealize.ShloMosaic.Lib.Pipeline.ValueKit

@[expose] public section

noncomputable section

namespace Cert.Exchange

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result's window is its whole array, written back once: the array ends as the body left the staging buffer. -/
theorem finalA_out (c : Dev nD) : finalA m ρ c (3 : Fin 4) = outAt m c := by
  refine (dats m ρ 0 c).arrAt_eq_of_after_last (3 : Fin 4) t₀ (by decide +kernel) _ fun j => ?_
  blk_simp
  rfl

/-- Every run of the kernel, for any float values: the result on each device is `outAt`, the arguments keep their contents and the
    counters end at zero. -/
theorem run_out : θ_run defs (onTc (τ := τ) (main (F := F))) (s₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨((h.1 c).1 (3 : Fin 4)).trans (finalA_out m ρ c),
    ((h.1 c).1 (0 : Fin 4)).trans (finalA_in m ρ c 0 rfl), ((h.1 c).1 (1 : Fin 4)).trans (finalA_in m ρ c 1 rfl),
    (h.1 c).2.1, (h.1 c).2.2, ((h.1 c).1 (2 : Fin 4)).trans (finalA_in m ρ c 2 rfl)⟩, h.2⟩) (run_main m ρ)

/-- The frame of the kernel read over extended reals. -/
theorem frame_kernelIdeal : Cert.quiescent_KernelIdeal := fun m ρ _ =>
  (θ_run Cert.KernelIdeal.defs _ _).mono (fun _ h => ⟨fun c => (h.1 c).2, h.2⟩) (run_out (F := Ideal) m ρ)

set_option maxRecDepth 65536 in
/-- The two readings of the kernel's text have the same body table … -/
theorem defs₀_eq : Cert.Kernel.defs₀ (F := Bits) = Cert.KernelIdeal.defs₀ (F := Bits) := by
  unfold Cert.Kernel.defs₀ Cert.KernelIdeal.defs₀
  refine congrArg Defs.onTc ?_
  funext l a
  rcases l with ⟨_ | n, h⟩
  · rfl
  · exact absurd h (Nat.not_lt.2 (Nat.le_add_left _ _))

set_option maxRecDepth 65536 in
/-- … hence the same table with the pipeline's labels. -/
theorem defs_eq : Cert.Kernel.defs (F := Bits) = Cert.KernelIdeal.defs (F := Bits) := by
  show Pipeline.defs Cert.KernelIdeal.pcfgs (Cert.Kernel.defs₀ (F := Bits)) = _
  rw [defs₀_eq]; rfl

/-- The frame of the kernel read over bit patterns: the same text, the same run. -/
theorem frame_kernel : Cert.quiescent_Kernel := fun m ρ _ => by
  rw [defs_eq]
  exact (θ_run Cert.KernelIdeal.defs _ _).mono (fun _ h => ⟨fun c => (h.1 c).2, h.2⟩) (run_out (F := Bits) m ρ)

end Cert.Exchange

end
-- ==== Proof.Value.Row.lean ====
/-
# One row of the attention, over the extended reals

The kernel sums `exp(score) · value` over the kept columns and multiplies by the reciprocal of the sum of the exponentials. The
reference subtracts the row's maximum first, gives a dropped column the score −∞, and divides each weight by the sum of the
weights before the values are summed. The two rows agree as long as the kept scores are real numbers and at least one column is
kept; the values may be infinite, since a factor that is a real number and not negative distributes over any sum.
-/
module

public import Idealize.ShloMosaic.PureOps.Ideal.Laws
public import Idealize.ShloMosaic.Lib.IdealHost

@[expose] public section

noncomputable section

namespace Cert.Value

open Idealize.ShloMosaic
open scoped BigOperators

/-- A real factor that is not negative goes inside a sum of extended reals. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a t ha ih =>
    rw [Finset.sum_insert ha, Finset.sum_insert ha, ← ih, mul_comm, EReal.left_distrib_of_nonneg_of_ne_top (by exact_mod_cast hr) (EReal.coe_ne_top r), mul_comm, mul_comm (r : EReal)]

/-- A sum of real numbers is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a t ha ih => rw [Finset.sum_insert ha, Finset.sum_insert ha, ih, EReal.coe_add]

/-- Being a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  choose g hg using h
  exact ⟨∑ i ∈ s, g i, by rw [← sum_coe]; exact Finset.sum_congr rfl fun i _ => hg i⟩

theorem isReal_of_abs_lt {x : EReal} (h : max x (-x) < ⊤) : IsReal x := by
  have h1 : x ≠ ⊤ := fun e => by simp [e] at h
  have h2 : x ≠ ⊥ := fun e => by simp [e] at h
  exact ⟨x.toReal, (EReal.coe_toReal h1 h2).symm⟩

/-- A quotient of real numbers is the real quotient, for a divisor that is not zero. -/
theorem div_coe_coe (a : ℝ) {b : ℝ} (hb : b ≠ 0) : Ideal.div (a : EReal) (b : EReal) = ((a / b : ℝ) : EReal) := by
  rw [Ideal.div_coe hb, ← EReal.coe_mul]; congr 1; ring

theorem exp_coe (r : ℝ) : Ideal.exp (r : EReal) = ((Real.exp r : ℝ) : EReal) := rfl
theorem exp_bot : Ideal.exp ⊥ = 0 := rfl

section
variable {n : ℕ} (p : Fin n → Prop) [DecidablePred p] (s : Fin n → ℝ)

/-- The masked scores. -/
def maskedRow (j : Fin n) : EReal := if p j then (s j : EReal) else ⊥

/-- Their maximum is a real number if some column is kept. -/
theorem rowMax_real {j₀ : Fin n} (h₀ : p j₀) : ∃ r : ℝ, Finset.univ.fold max ⊥ (maskedRow p s) = (r : EReal) := by
  have hge : (s j₀ : EReal) ≤ Finset.univ.fold max ⊥ (maskedRow p s) := by
    rw [Finset.le_fold_max]; right; exact ⟨j₀, Finset.mem_univ _, by simp [maskedRow, h₀]⟩
  have hlt : Finset.univ.fold max ⊥ (maskedRow p s) < ⊤ := by
    rw [Finset.fold_max_lt]
    refine ⟨bot_lt_top, fun j _ => ?_⟩
    unfold maskedRow; split
    · exact EReal.coe_lt_top _
    · exact bot_lt_top
  have hbot : Finset.univ.fold max ⊥ (maskedRow p s) ≠ ⊥ := fun e => by
    rw [e] at hge; exact absurd hge (by simp)
  exact ⟨_, (EReal.coe_toReal hlt.ne hbot).symm⟩

/-- The two rows agree. -/
theorem row_eq (v : Fin n → EReal) {j₀ : Fin n} (h₀ : p j₀) :
    (∑ j, if p j then Ideal.exp (s j : EReal) * v j else 0) * Ideal.div 1 (∑ j, if p j then Ideal.exp (s j : EReal) else 0)
      = ∑ j, v j * Ideal.div (Ideal.exp (maskedRow p s j - Finset.univ.fold max ⊥ (maskedRow p s)))
          (∑ i, Ideal.exp (maskedRow p s i - Finset.univ.fold max ⊥ (maskedRow p s))) := by
  obtain ⟨r, hr⟩ := rowMax_real p s h₀
  rw [hr]
  set e : Fin n → ℝ := fun j => if p j then Real.exp (s j) else 0 with he
  have hexp : ∀ j, (if p j then Ideal.exp (s j : EReal) else 0) = (e j : EReal) := fun j => by
    simp only [he]; split <;> simp [exp_coe]
  have hexpv : ∀ j, (if p j then Ideal.exp (s j : EReal) * v j else 0) = (e j : EReal) * v j := fun j => by
    simp only [he]; split <;> simp [exp_coe]
  have hw : ∀ j, Ideal.exp (maskedRow p s j - (r : EReal)) = ((e j * Real.exp (-r) : ℝ) : EReal) := fun j => by
    simp only [he, maskedRow]; split
    · rw [← EReal.coe_sub]; show ((Real.exp (s j - r) : ℝ) : EReal) = _
      rw [sub_eq_add_neg, Real.exp_add]
    · rw [EReal.bot_sub]; simp [exp_bot]
  have hpos : 0 < ∑ j, e j := by
    refine Finset.sum_pos' (fun j _ => ?_) ⟨j₀, Finset.mem_univ _, ?_⟩
    · simp only [he]; split
      · exact (Real.exp_pos _).le
      · exact le_rfl
    · simp only [he, if_pos h₀]; exact Real.exp_pos _
  simp only [hexp, hexpv, hw, sum_coe]
  have hs : ∑ j, e j * Real.exp (-r) = (∑ j, e j) * Real.exp (-r) := (Finset.sum_mul _ _ _).symm
  have hx : Real.exp (-r) ≠ 0 := (Real.exp_pos _).ne'
  rw [hs, show (1 : EReal) = ((1 : ℝ) : EReal) from rfl, div_coe_coe 1 hpos.ne', sum_mul_coe _ _ (by positivity)]
  refine Finset.sum_congr rfl fun j _ => ?_
  rw [div_coe_coe _ (mul_ne_zero hpos.ne' hx), mul_comm (e j : EReal), mul_assoc, ← EReal.coe_mul]
  congr 2
  field_simp

end

end Cert.Value
-- ==== Proof.Value.Spec.lean ====
/-
# The block-sparse attention and its projection, as functions of the whole operands

A score, a context, a device's share of the projection, the projection. The contexts are written as the kernel forms them. The
four devices' shares, each over the 256 context columns of its own four heads, add up to the projection over all 1024.
-/
module

public import proofs.«01_k».proof.Proof.Value.Row
public import Idealize.ShloMosaic.Lib.Pointwise

@[expose] public section

noncomputable section

namespace Cert.Value

open Idealize.ShloMosaic
open scoped BigOperators

/-- The operands' index sets. -/
abbrev TX : Shape := ⟨3, ![2, 128, 512]⟩
abbrev TQ : Shape := ⟨2, ![512, 1024]⟩
abbrev TK : Shape := ⟨4, ![2, 128, 16, 64]⟩
abbrev TO : Shape := ⟨2, ![1024, 512]⟩

/-- Row `i` keeps column `j`: all but the upper right block of 64 × 64. -/
def keep (i j : Fin 128) : Prop := ¬(i.val < 64 ∧ 64 ≤ j.val)
instance (i j : Fin 128) : Decidable (keep i j) := inferInstanceAs (Decidable ¬_)
theorem keep_zero (i : Fin 128) : keep i 0 := fun h => absurd h.2 (by decide)

/-- The scale of the scores, one eighth, as the programs print it. -/
def scale : EReal := Ideal.ofBits .f32 0x3E000000#32
theorem scale_eq : scale = ((1 / 8 : ℝ) : EReal) := by
  simp [scale, Ideal.ofBits, Ideal.ieee, -EReal.coe_mul]; norm_num
/-- The pattern the reference masks with is −∞. -/
theorem ofBits_neg_inf : Ideal.ofBits .f32 0xFF800000#32 = ⊥ := by simp [Ideal.ofBits, Ideal.ieee]
/-- The pattern the precondition compares with is +∞. -/
theorem ofBits_inf : Ideal.ofBits .f32 0x7F800000#32 = ⊤ := by simp [Ideal.ofBits, Ideal.ieee]

variable (X : TX.Idx → EReal) (WQ : TQ.Idx → EReal) (K V : TK.Idx → EReal) (WO : TO.Idx → EReal)

/-- Column `d` of head `g` among the 1024 columns. -/
def col (g : Fin 16) (d : Fin 64) : Fin 1024 := ⟨g.val * 64 + d.val, by have := g.isLt; have := d.isLt; omega⟩

/-- The score of row `i` against column `j` in head `g` of batch `b`. -/
def score (b : Fin 2) (g : Fin 16) (i j : Fin 128) : EReal :=
  (∑ d : Fin 64, (∑ e : Fin 512, X (ix3 b i e) * WQ (ix2 e (col g d))) * K (ix4 b j g d)) * scale

/-- The context of row `i`, column `d` of head `g`. -/
def context (b : Fin 2) (g : Fin 16) (i : Fin 128) (d : Fin 64) : EReal :=
  (∑ j : Fin 128, if keep i j then Ideal.exp (score X WQ K b g i j) * V (ix4 b j g d) else 0)
    * Ideal.div 1 (∑ j : Fin 128, if keep i j then Ideal.exp (score X WQ K b g i j) else 0)

/-- Context column `k` of 1024. -/
def contextAt (b : Fin 2) (i : Fin 128) (k : Fin 1024) : EReal :=
  context X WQ K V b ⟨k.val / 64, by have := k.isLt; omega⟩ i ⟨k.val % 64, Nat.mod_lt _ (by decide)⟩

/-- Column `r` of device `c` among the 1024. -/
def colOf (c : Fin 4) (r : Fin 256) : Fin 1024 := ⟨256 * c.val + r.val, by have := c.isLt; have := r.isLt; omega⟩

/-- Device `c`'s share of the projection. -/
def share (c : Fin 4) (b : Fin 2) (i : Fin 128) (n : Fin 512) : EReal :=
  ∑ r : Fin 256, contextAt X WQ K V b i (colOf c r) * WO (ix2 (colOf c r) n)

/-- The projection. -/
def projected (b : Fin 2) (i : Fin 128) (n : Fin 512) : EReal :=
  ∑ k : Fin 1024, contextAt X WQ K V b i k * WO (ix2 k n)

theorem sum_shares (b : Fin 2) (i : Fin 128) (n : Fin 512) :
    ∑ c : Fin 4, share X WQ K V WO c b i n = projected X WQ K V WO b i n := by
  unfold share projected
  rw [← Finset.sum_product', ← (finProdFinEquiv (m := 4) (n := 256)).sum_comp]
  refine Finset.sum_congr rfl fun x _ => ?_
  have h : colOf x.1 x.2 = finProdFinEquiv (m := 4) (n := 256) x := Fin.ext (by simp [colOf, finProdFinEquiv]; omega)
  rw [h]

/-- Scaling each projected query, as the kernel does, or the score, as the reference does. -/
theorem score_scaled (b : Fin 2) (g : Fin 16) (i j : Fin 128) :
    ∑ d : Fin 64, ((∑ e : Fin 512, X (ix3 b i e) * WQ (ix2 e (col g d))) * scale) * K (ix4 b j g d) = score X WQ K b g i j := by
  unfold score
  rw [scale_eq, sum_mul_coe _ _ (by norm_num)]
  exact Finset.sum_congr rfl fun d _ => by rw [mul_right_comm]

theorem score_real (hX : ∀ i, IsReal (X i)) (hQ : ∀ i, IsReal (WQ i)) (hK : ∀ i, IsReal (K i)) (b : Fin 2) (g : Fin 16) (i j : Fin 128) :
    IsReal (score X WQ K b g i j) :=
  (IsReal.sum _ fun d => (IsReal.sum _ fun e => (hX _).mul (hQ _)).mul (hK _)).mul ⟨1 / 8, scale_eq⟩

end Cert.Value
-- ==== Proof.Value.KernelRead.lean ====
/-
# What each device of the kernel computes

The values of the kernel's run, read at an index over the extended reals: the loaded operands, the scaled queries, each of the four
heads of each batch, the device's share of the projection, and the result after the two rounds of the exchange. Whatever the order in
which a device adds the four shares, the sum is the whole projection.
-/
module

public import proofs.«01_k».proof.Proof.Exchange.Frames
public import proofs.«01_k».proof.Proof.Value.Spec
public import Idealize.ShloMosaic.Lib.Pointwise.IndexBridge

@[expose] public section

noncomputable section

namespace Cert.Value

open Cert.KernelIdeal Cert.KernelIdeal.Gen
open Idealize.ShloMosaic Idealize.ShloMosaic.TcCoe
open Cert.Exchange (pa pb headIx)
open scoped BigOperators

set_option maxRecDepth 16384

/-! ## The loaded operands, at any element type -/

section
variable {F : FTy → Type} [FloatOps F] (m : (ℓ : Loc nD τ sig) → Buf (Elt F) ℓ) (c : Dev nD)

theorem xb0_apply (i : Fin 128) (e : Fin 512) : Exchange.xb0 m c (ix3 0 i e) = m ((c : Thread nD τ).loc main_arg0) (ix3 0 i e) := by
  unfold Exchange.xb0 Exchange.xstg
  refine congrArg (m ((c : Thread nD τ).loc main_arg0)) (funext fun a => Fin.ext ?_)
  fin_cases a <;> simp <;> rfl

theorem xb1_apply (i : Fin 128) (e : Fin 512) : Exchange.xb1 m c (ix3 0 i e) = m ((c : Thread nD τ).loc main_arg0) (ix3 1 i e) := by
  unfold Exchange.xb1 Exchange.xstg
  refine congrArg (m ((c : Thread nD τ).loc main_arg0)) (funext fun a => Fin.ext ?_)
  fin_cases a <;> simp <;> rfl

theorem wq_apply (e : Fin 512) (r : Fin 256) : Exchange.wq m c (ix2 e r) = m ((c : Thread nD τ).loc main_arg1) (ix2 e r) := by
  unfold Exchange.wq Exchange.wqstg
  refine congrArg (m ((c : Thread nD τ).loc main_arg1)) (funext fun a => Fin.ext ?_)
  fin_cases a <;> simp <;> rfl

theorem wo_apply (r : Fin 256) (n : Fin 512) : Exchange.wo m c (ix2 r n) = m ((c : Thread nD τ).loc main_arg4) (ix2 r n) := by
  unfold Exchange.wo Exchange.wostg
  refine congrArg (m ((c : Thread nD τ).loc main_arg4)) (funext fun a => Fin.ext ?_)
  fin_cases a <;> simp <;> rfl

theorem headOf_apply (Y : FVec F S2x128x16x64 .f32) (b : Fin 2) (h : Fin 4) (j : Fin 128) (d : Fin 64) :
    Exchange.headOf (Exchange.heads Y c) b h (ix4 0 j 0 d) = Y (ix4 b j (Exchange.headIx c h) d) := by
  refine congrArg Y (funext fun a => Fin.ext ?_)
  fin_cases a
  · simp
  · simp
  · show 4 * c.val + (h.val + 1 * 0) = 4 * c.val + h.val
    omega
  · simp

theorem assemble_apply (w : Fin 2 → Fin 2 → FVec F S1x64x512 .f32) (b : Fin 2) (i : Fin 128) (n : Fin 512) :
    Exchange.assemble w (ix3 b i n) = w b ⟨i.val / 64, by have := i.isLt; omega⟩ (ix3 0 ⟨i.val % 64, Nat.mod_lt _ (by decide)⟩ n) := by
  rw [ix3_eq_valueIdx (0 : Fin 1)]
  rfl

end

/-! ## The mask -/

theorem blockOf_word : ∀ i : Fin 128, k0_pay2 (ix2 i 0) = if i.val < 64 then 0#32 else 1#32 := by
  intro i
  pointwise [k0_pay2]
  revert i; decide +kernel

theorem msk_apply (i j : Fin 128) : Exchange.msk (ix2 i j) = if keep i j then 1#1 else 0#1 := by
  have hi := blockOf_word i
  have hj := blockOf_word j
  revert hi hj
  pointwise [Exchange.msk, k0_pay2, k0_pay3, k0_pay4]
  intro hi hj
  rw [hi, hj]
  unfold keep
  by_cases hi : i.val < 64 <;> by_cases hj : j.val < 64 <;> simp only [hi, hj, if_true, if_false, not_lt.mpr, not_le.mpr, not_lt.mp, true_and, false_and, not_true, not_false_iff, and_true] <;> first | decide +kernel | (have := not_lt.mp hj; simp only [this]; decide +kernel)

/-! ## The heads -/

/-- The arguments of the four devices hold these whole operands: two of them in blocks of 256 columns or rows. -/
structure Holds (m : (ℓ : Loc nD τ sig) → Buf (Elt Ideal) ℓ) (X : TX.Idx → EReal) (WQ : TQ.Idx → EReal) (K V : TK.Idx → EReal) (WO : TO.Idx → EReal) : Prop where
  x : ∀ (c : Dev nD) b i e, m ((c : Thread nD τ).loc main_arg0) (ix3 b i e) = X (ix3 b i e)
  q : ∀ (c : Dev nD) e r, m ((c : Thread nD τ).loc main_arg1) (ix2 e r) = WQ (ix2 e (colOf c r))
  k : ∀ (c : Dev nD) b j g d, m ((c : Thread nD τ).loc main_arg2) (ix4 b j g d) = K (ix4 b j g d)
  v : ∀ (c : Dev nD) b j g d, m ((c : Thread nD τ).loc main_arg3) (ix4 b j g d) = V (ix4 b j g d)
  o : ∀ (c : Dev nD) r n, m ((c : Thread nD τ).loc main_arg4) (ix2 r n) = WO (ix2 (colOf c r) n)

section
variable {m : (ℓ : Loc nD τ sig) → Buf (Elt Ideal) ℓ} {X : TX.Idx → EReal} {WQ : TQ.Idx → EReal} {K V : TK.Idx → EReal} {WO : TO.Idx → EReal}
variable (H : Holds m X WQ K V WO)

/-- The scaled queries of batch `b` on device `c`. -/
def IsQuery (X : TX.Idx → EReal) (WQ : TQ.Idx → EReal) (q : FVec Ideal S128x256 .f32) (b : Fin 2) (c : Dev nD) : Prop :=
  ∀ i r, q (ix2 i r) = (∑ e : Fin 512, X (ix3 b i e) * WQ (ix2 e (colOf c r))) * scale

include H in
theorem q0_apply (c : Dev nD) : IsQuery X WQ (Exchange.q0 m c) 0 c := fun i r => by
  pointwise [Exchange.q0, k0_pay5]
  simp only [xb0_apply, wq_apply, H.x, H.q]
  rfl

include H in
theorem q1_apply (c : Dev nD) : IsQuery X WQ (Exchange.q1 m c) 1 c := fun i r => by
  pointwise [Exchange.q1, k0_pay15]
  simp only [xb1_apply, wq_apply, H.x, H.q]
  rfl

include H in
theorem kh_apply (b : Fin 2) (h : Fin 4) (c : Dev nD) (j : Fin 128) (d : Fin 64) : Exchange.kh m b h c (ix4 0 j 0 d) = K (ix4 b j (headIx c h) d) :=
  (headOf_apply c _ b h j d).trans (H.k c b j _ d)

include H in
theorem vh_apply (b : Fin 2) (h : Fin 4) (c : Dev nD) (j : Fin 128) (d : Fin 64) : Exchange.vh m b h c (ix4 0 j 0 d) = V (ix4 b j (headIx c h) d) :=
  (headOf_apply c _ b h j d).trans (H.v c b j _ d)

include H in
/-- A score, from 64 of a device's columns. -/
theorem score_of {b : Fin 2} {c : Dev nD} {q : FVec Ideal S128x256 .f32} (hq : IsQuery X WQ q b c) (h : Fin 4) (f : Fin 64 → Fin 256)
    (hf : ∀ y, (f y).val = 64 * h.val + y.val) (i j : Fin 128) :
    ∑ y, q (ix2 i (f y)) * Exchange.kh m b h c (ix4 0 j 0 y) = score X WQ K b (headIx c h) i j := by
  rw [← score_scaled]
  refine Finset.sum_congr rfl fun y _ => ?_
  have hc : colOf c (f y) = col (headIx c h) y := Fin.ext (by simp only [colOf, col, hf]; omega)
  rw [hq, kh_apply H, hc]

include H in
/-- One head of a device. -/
theorem head_eq {b : Fin 2} {c : Dev nD} {q : FVec Ideal S128x256 .f32} (hq : IsQuery X WQ q b c) (h : Fin 4) (f : Fin 64 → Fin 256)
    (hf : ∀ y, (f y).val = 64 * h.val + y.val) (i : Fin 128) (d : Fin 64) :
    (∑ j, Scalar.select (Exchange.msk (ix2 i j)) (Ideal.exp (∑ y, q (ix2 i (f y)) * Exchange.kh m b h c (ix4 0 j 0 y)) * Exchange.vh m b h c (ix4 0 j 0 d)) 0)
      * Ideal.div 1 (∑ j, Scalar.select (Exchange.msk (ix2 i j)) (Ideal.exp (∑ y, q (ix2 i (f y)) * Exchange.kh m b h c (ix4 0 j 0 y))) 0)
      = context X WQ K V b (headIx c h) i d := by
  have hs : ∀ (j : Fin 128) (x : EReal), Scalar.select (Exchange.msk (ix2 i j)) x 0 = if keep i j then x else 0 := fun j x => by
    rw [msk_apply]
    by_cases hk : keep i j
    · rw [if_pos hk, if_pos hk]; rfl
    · rw [if_neg hk, if_neg hk]; rfl
  simp only [hs, score_of H hq h f hf, vh_apply H]
  rfl

include H in
theorem o00_apply (c : Dev nD) (i : Fin 128) (d : Fin 64) : Exchange.o00 m c (ix2 i d) = context X WQ K V 0 (headIx c 0) i d := by
  pointwise [Exchange.o00, k0_pay6]
  exact head_eq H (q0_apply H c) 0 _ (fun y => by simp) i d

include H in
theorem o01_apply (c : Dev nD) (i : Fin 128) (d : Fin 64) : Exchange.o01 m c (ix2 i d) = context X WQ K V 0 (headIx c 1) i d := by
  pointwise [Exchange.o01, k0_pay8, Exchange.q01, k0_pay7]
  exact head_eq H (q0_apply H c) 1 _ (fun y => by simp) i d

include H in
theorem o02_apply (c : Dev nD) (i : Fin 128) (d : Fin 64) : Exchange.o02 m c (ix2 i d) = context X WQ K V 0 (headIx c 2) i d := by
  pointwise [Exchange.o02, k0_pay9]
  exact head_eq H (q0_apply H c) 2 _ (fun y => by simp) i d

include H in
theorem o10_apply (c : Dev nD) (i : Fin 128) (d : Fin 64) : Exchange.o10 m c (ix2 i d) = context X WQ K V 1 (headIx c 0) i d := by
  pointwise [Exchange.o10, k0_pay16]
  exact head_eq H (q1_apply H c) 0 _ (fun y => by simp) i d

include H in
theorem o11_apply (c : Dev nD) (i : Fin 128) (d : Fin 64) : Exchange.o11 m c (ix2 i d) = context X WQ K V 1 (headIx c 1) i d := by
  pointwise [Exchange.o11, k0_pay19, Exchange.e11, Exchange.l11, k0_pay17, k0_pay18]
  exact head_eq H (q1_apply H c) 1 _ (fun y => by simp) i d

include H in
theorem o12_apply (c : Dev nD) (i : Fin 128) (d : Fin 64) : Exchange.o12 m c (ix2 i d) = context X WQ K V 1 (headIx c 2) i d := by
  pointwise [Exchange.o12, k0_pay20]
  exact head_eq H (q1_apply H c) 2 _ (fun y => by simp) i d

/-- A context column of a device, by its head. -/
theorem contextAt_of (b : Fin 2) (c : Dev nD) (i : Fin 128) (r : Fin 256) (h : Fin 4) (d : Fin 64) (hr : r.val = 64 * h.val + d.val) :
    contextAt X WQ K V b i (colOf c r) = context X WQ K V b (headIx c h) i d := by
  have h1 : (256 * c.val + r.val) / 64 = 4 * c.val + h.val := by have := d.isLt; omega
  have h2 : (256 * c.val + r.val) % 64 = d.val := by have := d.isLt; omega
  unfold contextAt
  congr 1
  · exact Fin.ext h1
  · exact Fin.ext h2

/-! ## The shares of the projection -/

include H in
theorem p0_apply (c : Dev nD) (i : Fin 128) (n : Fin 512) : Exchange.p0 m c (ix2 i n) = share X WQ K V WO c 0 i n := by
  pointwise [Exchange.p0, k0_pay12, Exchange.q03, Exchange.k03, k0_pay10, k0_pay11]
  refine Finset.sum_congr rfl fun r _ => ?_
  rw [wo_apply, H.o]
  congr 1
  by_cases h0 : r.val < 64
  · rw [dif_pos h0, o00_apply H]; exact (contextAt_of 0 c i r 0 _ (by simp)).symm
  rw [dif_neg h0]
  by_cases h1 : r.val - 64 < 64
  · rw [dif_pos h1, o01_apply H]; exact (contextAt_of 0 c i r 1 _ (by simp; omega)).symm
  rw [dif_neg h1]
  by_cases h2 : r.val - 64 - 64 < 64
  · rw [dif_pos h2, o02_apply H]; exact (contextAt_of 0 c i r 2 _ (by simp; omega)).symm
  rw [dif_neg h2]
  refine (head_eq H (q0_apply H c) 3 _ (fun y => by simp) i _).trans (contextAt_of 0 c i r 3 _ (by simp; omega)).symm

include H in
theorem p1_apply (c : Dev nD) (i : Fin 128) (n : Fin 512) : Exchange.p1 m c (ix2 i n) = share X WQ K V WO c 1 i n := by
  pointwise [Exchange.p1, k0_pay23, Exchange.e13, Exchange.l13, Exchange.one, k0_pay21, k0_pay22]
  refine Finset.sum_congr rfl fun r _ => ?_
  rw [wo_apply, H.o]
  congr 1
  by_cases h0 : r.val < 64
  · rw [dif_pos h0, o10_apply H]; exact (contextAt_of 1 c i r 0 _ (by simp)).symm
  rw [dif_neg h0]
  by_cases h1 : r.val - 64 < 64
  · rw [dif_pos h1, o11_apply H]; exact (contextAt_of 1 c i r 1 _ (by simp; omega)).symm
  rw [dif_neg h1]
  by_cases h2 : r.val - 64 - 64 < 64
  · rw [dif_pos h2, o12_apply H]; exact (contextAt_of 1 c i r 2 _ (by simp; omega)).symm
  rw [dif_neg h2]
  refine (head_eq H (q1_apply H c) 3 _ (fun y => by simp) i _).trans (contextAt_of 1 c i r 3 _ (by simp; omega)).symm

/-! ## The result -/

/-- A device, its partners and its partners' partners are the four devices. -/
theorem sum_orbit_a (f : Fin 4 → EReal) (c : Dev nD) : f c + f (pa c) + (f (pb c) + f (pa (pb c))) = ∑ d, f d := by
  rw [Fin.sum_univ_four]
  have hc : c = 0 ∨ c = 1 ∨ c = 2 ∨ c = 3 := by revert c; decide
  rcases hc with rfl | rfl | rfl | rfl
  · show f 0 + f 1 + (f 3 + f 2) = _; abel
  · show f 1 + f 0 + (f 2 + f 3) = _; abel
  · show f 2 + f 3 + (f 1 + f 0) = _; abel
  · show f 3 + f 2 + (f 0 + f 1) = _; abel

theorem sum_orbit_b (f : Fin 4 → EReal) (c : Dev nD) : f c + f (pb c) + (f (pa c) + f (pb (pa c))) = ∑ d, f d := by
  rw [Fin.sum_univ_four]
  have hc : c = 0 ∨ c = 1 ∨ c = 2 ∨ c = 3 := by revert c; decide
  rcases hc with rfl | rfl | rfl | rfl
  · show f 0 + f 3 + (f 1 + f 2) = _; abel
  · show f 1 + f 2 + (f 0 + f 3) = _; abel
  · show f 2 + f 1 + (f 3 + f 0) = _; abel
  · show f 3 + f 0 + (f 2 + f 1) = _; abel

include H in
theorem part0 (c : Dev nD) (i : Fin 128) (n : Fin 512) : k0_pay12 Exchange.msk (Exchange.o00 m c) (Exchange.o01 m c) (Exchange.o02 m c) (Exchange.q03 m c) (Exchange.k03 m c) (Exchange.vh m 0 3 c) (Exchange.wo m c) (ix2 i n) = share X WQ K V WO c 0 i n := p0_apply H c i n

include H in
theorem part1 (c : Dev nD) (i : Fin 128) (n : Fin 512) : k0_pay23 (Exchange.o10 m c) (Exchange.o11 m c) (Exchange.o12 m c) (Exchange.e13 m c) (Exchange.l13 m c) Exchange.one (Exchange.vh m 1 3 c) (Exchange.wo m c) (ix2 i n) = share X WQ K V WO c 1 i n := p1_apply H c i n

include H in
theorem r00_apply (c : Dev nD) (i : Fin 64) (n : Fin 512) : Exchange.r00 m c (ix3 0 i n) = projected X WQ K V WO 0 ⟨i.val, by have := i.isLt; omega⟩ n := by
  pointwise [Exchange.r00, k0_pay36, Exchange.a0, Exchange.s4, k0_pay28, k0_pay29, Exchange.h0, Exchange.g0, k0_pay26, k0_pay27, Exchange.s0, k0_pay13, Exchange.p0]
  simp only [part0 H]
  rw [← sum_shares, ← sum_orbit_a _ c]

include H in
theorem r01_apply (c : Dev nD) (i : Fin 64) (n : Fin 512) : Exchange.r01 m c (ix3 0 i n) = projected X WQ K V WO 0 ⟨64 + i.val, by have := i.isLt; omega⟩ n := by
  pointwise [Exchange.r01, k0_pay37, Exchange.a1, Exchange.s5, k0_pay30, k0_pay31, Exchange.s1, k0_pay14, Exchange.p0]
  simp only [part0 H]
  rw [← sum_shares, ← sum_orbit_a _ c]

include H in
theorem r10_apply (c : Dev nD) (i : Fin 64) (n : Fin 512) : Exchange.r10 m c (ix3 0 i n) = projected X WQ K V WO 1 ⟨i.val, by have := i.isLt; omega⟩ n := by
  pointwise [Exchange.r10, k0_pay38, Exchange.a2, Exchange.s6, k0_pay32, k0_pay33, Exchange.s2, k0_pay24, Exchange.p1]
  simp only [part1 H]
  rw [← sum_shares, ← sum_orbit_b _ c]

include H in
theorem r11_apply (c : Dev nD) (i : Fin 64) (n : Fin 512) : Exchange.r11 m c (ix3 0 i n) = projected X WQ K V WO 1 ⟨64 + i.val, by have := i.isLt; omega⟩ n := by
  pointwise [Exchange.r11, k0_pay1, Exchange.a3, Exchange.s7, k0_pay34, k0_pay35, Exchange.s3, k0_pay25, Exchange.p1]
  simp only [part1 H]
  rw [← sum_shares, ← sum_orbit_b _ c]

include H in
/-- Every device ends with the projection. -/
theorem outAt_apply (c : Dev nD) (b : Fin 2) (i : Fin 128) (n : Fin 512) : Exchange.outAt m c (ix3 b i n) = projected X WQ K V WO b i n := by
  unfold Exchange.outAt
  rw [assemble_apply]
  by_cases h : i.val < 64
  · have h0 : (⟨i.val / 64, by have := i.isLt; omega⟩ : Fin 2) = 0 := Fin.ext (by show i.val / 64 = 0; omega)
    rw [h0]
    match b with
    | 0 => exact (r00_apply H c _ n).trans (by congr 1; exact Fin.ext (by show i.val % 64 = i.val; omega))
    | 1 => exact (r10_apply H c _ n).trans (by congr 1; exact Fin.ext (by show i.val % 64 = i.val; omega))
  · have h0 : (⟨i.val / 64, by have := i.isLt; omega⟩ : Fin 2) = 1 := Fin.ext (by show i.val / 64 = 1; have := i.isLt; omega)
    rw [h0]
    match b with
    | 0 => exact (r01_apply H c _ n).trans (by congr 1; exact Fin.ext (by show 64 + i.val % 64 = i.val; have := i.isLt; omega))
    | 1 => exact (r11_apply H c _ n).trans (by congr 1; exact Fin.ext (by show 64 + i.val % 64 = i.val; have := i.isLt; omega))

end

end Cert.Value
-- ==== Proof.Value.Reference.lean ====
/-
# The reference, stage by stage

The reference's result is one long term of whole-array operations. It is cut here into the stages of its text: the block mask,
the scaled scores, the masked scores, the row maxima, the weights, the normalised weights, the contexts, the projection.
Each stage is then read at an index.
-/
module

public import proofs.«01_k».proof.Proof.Gen.ReferenceIdeal.Run
public import proofs.«01_k».proof.Proof.Value.Spec
public import Idealize.ShloMosaic.Lib.Routing.OpsOrder

@[expose] public section

noncomputable section

namespace Cert.Value.Ref

open Cert.ReferenceIdeal Cert.ReferenceIdeal.Gen
open Idealize.ShloMosaic Idealize.ShloMosaic.TcCoe

set_option maxRecDepth 16384
set_option maxHeartbeats 1000000

variable {F : FTy → Type} [FloatOps F]

/-- The block of 64 each of the 128 positions lies in: a floor division, as the reference spells it. -/
def blockIx : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- The truncated remainder by three of the sum of a row's and a column's block. -/
def remThree : IVec S128x128 32 :=
  Host.remsi (addi (broadcastInDim S128x128 ![0, 1] bcast_S128x1_S128x128_0_1 (broadcastInDim S128x1 ![0] bcast_S128_S128x1_0 blockIx)) (broadcastInDim S128x128 ![0, 1] bcast_S1x128_S128x128_0_1 (broadcastInDim S1x128 ![1] bcast_S128_S1x128_1 blockIx))) (broadcastInDim S128x128 ![] bcast_S_S128x128 (select (cmpi .eq (id (constantI S_ 32 3#32)) (constantI S_ 32 0#32)) (constantI S_ 32 1#32) (id (constantI S_ 32 3#32))))

/-- Which columns a row keeps: its own block, block 0, or a sum of blocks divisible by three. -/
def keepMask : IVec S128x128 1 :=
  ori (ori (cmpi .eq (broadcastInDim S128x128 ![0, 1] bcast_S128x1_S128x128_0_1 (broadcastInDim S128x1 ![0] bcast_S128_S128x1_0 blockIx)) (broadcastInDim S128x128 ![0, 1] bcast_S1x128_S128x128_0_1 (broadcastInDim S1x128 ![1] bcast_S128_S1x128_1 blockIx))) (broadcastInDim S128x128 ![0, 1] bcast_S1x128_S128x128_0_1 (cmpi .eq (broadcastInDim S1x128 ![1] bcast_S128_S1x128_1 blockIx) (broadcastInDim S1x128 ![] bcast_S_S1x128 (constantI S_ 32 0#32))))) (cmpi .eq (select (andi (cmpi .ne (cmpi .slt remThree (broadcastInDim S128x128 ![] bcast_S_S128x128 (constantI S_ 32 0#32))) (broadcastInDim S128x128 ![] bcast_S_S128x128 (cmpi .slt (select (cmpi .eq (id (constantI S_ 32 3#32)) (constantI S_ 32 0#32)) (constantI S_ 32 1#32) (id (constantI S_ 32 3#32))) (constantI S_ 32 0#32)))) (cmpi .ne remThree (broadcastInDim S128x128 ![] bcast_S_S128x128 (constantI S_ 32 0#32)))) (addi remThree (broadcastInDim S128x128 ![] bcast_S_S128x128 (select (cmpi .eq (id (constantI S_ 32 3#32)) (constantI S_ 32 0#32)) (constantI S_ 32 1#32) (id (constantI S_ 32 3#32))))) remThree) (broadcastInDim S128x128 ![] bcast_S_S128x128 (constantI S_ 32 0#32)))

/-- The scaled scores. -/
def score (x : FVec F S2x128x512 .f32) (wq : FVec F S512x1024 .f32) (k : FVec F S2x128x16x64 .f32) : FVec F S2x16x128x128 .f32 :=
  mulf (Host.dotGeneral dot_S2x128x16x64_S2x128x16x64_S2x16x128x128_3_3_1_1_02_02 none (shapeCast _ (Host.dotGeneral dot_S2x128x512_S512x1024_S2x128x1024_2_0_01_1_n_n none x wq) shapeCasts_S2x128x1024_S2x128x16x64) k) (broadcastInDim S2x16x128x128 ![] bcast_S_S2x16x128x128 (constant S_ .f32 0x3E000000#32))

/-- The scores, −∞ where a column is dropped. -/
def masked (x : FVec F S2x128x512 .f32) (wq : FVec F S512x1024 .f32) (k : FVec F S2x128x16x64 .f32) : FVec F S2x16x128x128 .f32 :=
  select (broadcastInDim S2x16x128x128 ![0, 1, 2, 3] bcast_S1x1x128x128_S2x16x128x128_0_1_2_3 (broadcastInDim S1x1x128x128 ![2, 3] bcast_S128x128_S1x1x128x128_2_3 keepMask)) (score x wq k) (broadcastInDim S2x16x128x128 ![] bcast_S_S2x16x128x128 (id (constant S_ .f32 0xFF800000#32)))

/-- The rows' maxima. -/
def rowMax (x : FVec F S2x128x512 .f32) (wq : FVec F S512x1024 .f32) (k : FVec F S2x128x16x64 .f32) : FVec F S2x16x128 .f32 :=
  Host.reduce FloatOps.maximumf (masked x wq k) (constant S_ .f32 0xFF800000#32) reducesTo_S2x16x128x128_S2x16x128_d3 h_S_

/-- The exponentials of the scores less their row's maximum. -/
def weight (x : FVec F S2x128x512 .f32) (wq : FVec F S512x1024 .f32) (k : FVec F S2x128x16x64 .f32) : FVec F S2x16x128x128 .f32 :=
  Host.exp (subf (masked x wq k) (broadcastInDim S2x16x128x128 ![0, 1, 2, 3] bcast_S2x16x128x1_S2x16x128x128_0_1_2_3 (broadcastInDim S2x16x128x1 ![0, 1, 2] bcast_S2x16x128_S2x16x128x1_0_1_2 (rowMax x wq k))))

/-- Whether a row keeps any column. -/
def rowKeep : IVec S128 1 :=
  Host.reduce IntOp.ori keepMask (constantI S_ 1 0#1) reducesTo_S128x128_S128_d1 h_S_

/-- The weights over their row's sum. -/
def normed (x : FVec F S2x128x512 .f32) (wq : FVec F S512x1024 .f32) (k : FVec F S2x128x16x64 .f32) : FVec F S2x16x128x128 .f32 :=
  select (broadcastInDim S2x16x128x128 ![0, 1, 2, 3] bcast_S1x1x128x1_S2x16x128x128_0_1_2_3 (broadcastInDim S1x1x128x1 ![2] bcast_S128_S1x1x128x1_2 rowKeep)) (Host.divf (weight x wq k) (broadcastInDim S2x16x128x128 ![0, 1, 2, 3] bcast_S2x16x128x1_S2x16x128x128_0_1_2_3 (select (broadcastInDim S2x16x128x1 ![0, 1, 2, 3] bcast_S1x1x128x1_S2x16x128x1_0_1_2_3 (broadcastInDim S1x1x128x1 ![2] bcast_S128_S1x1x128x1_2 rowKeep)) (broadcastInDim S2x16x128x1 ![0, 1, 2] bcast_S2x16x128_S2x16x128x1_0_1_2 (Host.reduceAdd (weight x wq k) (constant S_ .f32 0x00000000#32) reducesTo_S2x16x128x128_S2x16x128_d3 h_S_)) (broadcastInDim S2x16x128x1 ![] bcast_S_S2x16x128x1 (id (constant S_ .f32 0x3F800000#32)))))) (broadcastInDim S2x16x128x128 ![] bcast_S_S2x16x128x128 (id (constant S_ .f32 0x00000000#32)))

/-- The contexts, head by head. -/
def context (x : FVec F S2x128x512 .f32) (wq : FVec F S512x1024 .f32) (k : FVec F S2x128x16x64 .f32) (v : FVec F S2x128x16x64 .f32) : FVec F S2x16x64x128 .f32 :=
  Host.dotGeneral dot_S2x128x16x64_S2x16x128x128_S2x16x64x128_1_3_3_2_02_01 none v (normed x wq k)

/-- Their projection. -/
def result (x : FVec F S2x128x512 .f32) (wq : FVec F S512x1024 .f32) (k : FVec F S2x128x16x64 .f32) (v : FVec F S2x128x16x64 .f32) (wo : FVec F S1024x512 .f32) : FVec F S2x128x512 .f32 :=
  Host.dotGeneral dot_S2x128x1024_S1024x512_S2x128x512_2_0_01_1_n_n none (shapeCast _ (transpose S2x128x16x64 [0, 3, 1, 2] (context x wq k v) transposes_S2x16x64x128_S2x128x16x64_0_3_1_2) shapeCasts_S2x128x16x64_S2x128x1024) wo

/-- The printed result is the last stage of the arguments. -/
theorem res_eq (m : (ℓ : Loc nD τ sig) → Buf (Elt F) ℓ) (c : Dev nD) :
    Cert.ReferenceIdeal.Value.res_main_v44 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- A position's block of 64. -/
theorem blockIx_apply (i : Fin 128) : blockIx (ix1 i) = if i.val < 64 then 0#32 else 1#32 := by
  pointwise [blockIx]
  revert i; decide +kernel

theorem keepMask_apply (i j : Fin 128) : keepMask (ix2 i j) = if keep i j then 1#1 else 0#1 := by
  pointwise [keepMask, remThree]
  rw [blockIx_apply, blockIx_apply]
  unfold keep
  by_cases hi : i.val < 64 <;> by_cases hj : j.val < 64 <;> simp only [hi, hj, if_true, if_false, not_lt.mpr, not_le.mpr, not_lt.mp, true_and, false_and, not_true, not_false_iff, and_true] <;> first | decide +kernel | (have := not_lt.mp hj; simp only [this]; decide +kernel)

theorem rowKeep_apply (i : Fin 128) : rowKeep (ix1 i) = 1#1 := by
  pointwise [rowKeep]
  rw [Idealize.ShloMosaic.Routing.fold_ori]
  exact ⟨0, Finset.mem_univ _, by rw [keepMask_apply, if_pos (keep_zero i)]⟩

section
variable (x : FVec Ideal S2x128x512 .f32) (wq : FVec Ideal S512x1024 .f32) (k v : FVec Ideal S2x128x16x64 .f32) (wo : FVec Ideal S1024x512 .f32)

theorem score_apply (b : Fin 2) (g : Fin 16) (i j : Fin 128) : score x wq k (ix4 b g i j) = Cert.Value.score x wq k b g i j := by
  pointwise [score]
  rfl

theorem masked_apply (b : Fin 2) (g : Fin 16) (i j : Fin 128) :
    masked x wq k (ix4 b g i j) = if keep i j then Cert.Value.score x wq k b g i j else ⊥ := by
  pointwise [masked]
  rw [keepMask_apply, score_apply]
  by_cases h : keep i j
  · rw [if_pos h, if_pos h]; rfl
  · rw [if_neg h, if_neg h]; exact ofBits_neg_inf

theorem rowMax_apply (b : Fin 2) (g : Fin 16) (i : Fin 128) :
    rowMax x wq k (ix3 b g i) = Finset.univ.fold max ⊥ fun j => masked x wq k (ix4 b g i j) := by
  pointwise [rowMax]
  rw [ofBits_neg_inf]

theorem weight_apply (b : Fin 2) (g : Fin 16) (i j : Fin 128) :
    weight x wq k (ix4 b g i j) = Ideal.exp (masked x wq k (ix4 b g i j) - rowMax x wq k (ix3 b g i)) := by
  pointwise [weight]

theorem normed_apply (b : Fin 2) (g : Fin 16) (i j : Fin 128) :
    normed x wq k (ix4 b g i j) = Ideal.div (weight x wq k (ix4 b g i j)) (∑ l, weight x wq k (ix4 b g i l)) := by
  pointwise [normed]
  rw [rowKeep_apply]
  rfl

/-- The reference's contexts are the kernel's, for finite activations, projection and keys. -/
theorem context_apply (hx : ∀ i, IsReal (x i)) (hq : ∀ i, IsReal (wq i)) (hk : ∀ i, IsReal (k i)) (b : Fin 2) (g : Fin 16) (i : Fin 128) (d : Fin 64) :
    context x wq k v (ix4 b g d i) = Cert.Value.context x wq k v b g i d := by
  pointwise [context]
  choose s hs using fun j => score_real x wq k hx hq hk b g i j
  have hm : ∀ j, masked x wq k (ix4 b g i j) = maskedRow (keep i) s j := fun j => by
    rw [masked_apply, hs]; rfl
  simp only [normed_apply, weight_apply, rowMax_apply, hm]
  unfold Cert.Value.context
  simp only [hs]
  exact (row_eq (keep i) s (fun j => v (ix4 b j g d)) (keep_zero i)).symm

theorem result_apply (hx : ∀ i, IsReal (x i)) (hq : ∀ i, IsReal (wq i)) (hk : ∀ i, IsReal (k i)) (b : Fin 2) (i : Fin 128) (n : Fin 512) :
    result x wq k v wo (ix3 b i n) = projected x wq k v wo b i n := by
  pointwise [result]
  exact Finset.sum_congr rfl fun r _ => by rw [context_apply x wq k v hx hq hk]; rfl

end

end Cert.Value.Ref
-- ==== Proof.Value.Finite.lean ====
/-
# The precondition, read

Where the precondition holds, the activations, each device's block of the query projection and the keys are real numbers at every
index.
-/
module

public import proofs.«01_k».proof.Defs
public import proofs.«01_k».proof.Proof.Gen.Pre_finite_KernelIdeal
public import proofs.«01_k».proof.Proof.Value.Spec
public import Idealize.ShloMosaic.Lib.ReduceAll

@[expose] public section

noncomputable section

namespace Cert.Value.Finite

open Cert.Pre_finite_KernelIdeal Cert.Pre_finite_KernelIdeal.Gen
open Idealize.ShloMosaic

/-- An absolute value below +∞ is that of a real number. -/
theorem real_of_cmp {s : Shape} (x : FVec Ideal s .f32) (y : FVec Ideal s .f32) (hy : ∀ i, y i = (⊤ : EReal)) (i : s.Idx)
    (h : cmpf .olt (Host.absf x) y i = 1#1) : IsReal (x i) := by
  apply isReal_of_abs_lt
  have h1 : BitVec.ofBool (decide (max (x i) (-(x i)) < y i)) = 1#1 := h
  rw [hy] at h1
  by_contra hn
  rw [decide_eq_false hn] at h1
  exact absurd h1 (by decide)

theorem real (x : FVec Ideal S2x128x512 .f32) (q : FVec Ideal S512x256 .f32) (k v : FVec Ideal S2x128x16x64 .f32) (o : FVec Ideal S256x512 .f32)
    (h : Cert.Pre_finite_KernelIdeal.fn (F := Ideal) x q k v o = fun _ => 1#1) : (∀ i, IsReal (x i)) ∧ (∀ i, IsReal (q i)) ∧ ∀ i, IsReal (k i) := by
  have h0 := congrFun h ix0
  dsimp only [Cert.Pre_finite_KernelIdeal.fn] at h0
  obtain ⟨h1, hk⟩ := IntOp.andi_eq_one.1 h0
  obtain ⟨hx, hq⟩ := IntOp.andi_eq_one.1 h1
  haveI : Subsingleton S_.Idx := ⟨fun a b => funext fun d => d.elim0⟩
  exact ⟨fun i => real_of_cmp x _ (fun _ => ofBits_inf) i (Host.reduce_andi_all _ _ _ _ _ hx i),
    fun i => real_of_cmp q _ (fun _ => ofBits_inf) i (Host.reduce_andi_all _ _ _ _ _ hq i),
    fun i => real_of_cmp k _ (fun _ => ofBits_inf) i (Host.reduce_andi_all _ _ _ _ _ hk i)⟩

end Cert.Value.Finite
-- ==== Proof.Value.Algebraic.lean ====
/-
# The kernel's result is the reference's

On every device, over the extended reals, wherever the precondition holds.
-/
module

public import proofs.«01_k».proof.Defs
public import proofs.«01_k».proof.Proof.Value.KernelRead
public import proofs.«01_k».proof.Proof.Value.Reference
public import proofs.«01_k».proof.Proof.Value.Finite

@[expose] public section

noncomputable section

namespace Cert.Value

open Idealize.ShloMosaic Idealize.ShloMosaic.TcCoe Idealize.SL.Sem

/-- Every column is one of some device's. -/
theorem exists_colOf (n : Fin 1024) : ∃ (c : Fin 4) (r : Fin 256), n = colOf c r :=
  ⟨⟨n.val / 256, by have := n.isLt; omega⟩, ⟨n.val % 256, Nat.mod_lt _ (by decide)⟩, Fin.ext (by show n.val = 256 * (n.val / 256) + n.val % 256; omega)⟩

/-- A device's block of columns of the query projection, and of rows of the output projection. -/
theorem block_cols (c : Fin 4) (w : (⟨2, ![512, 1024]⟩ : Shape).Idx → EReal) (h) (e : Fin 512) (r : Fin 256) :
    Layout.block ⟨2, ![512, 256]⟩ ⟨2, ![512, 1024]⟩ 1 4 c w h (ix2 e r) = w (ix2 e (colOf c r)) := by
  rw [Layout.block_apply]
  refine congrArg w (funext fun a => Fin.ext ?_)
  rw [Layout.Tiles.idx_val]
  fin_cases a
  · simp
  · simp [colOf]; ring

theorem block_rows (c : Fin 4) (w : (⟨2, ![1024, 512]⟩ : Shape).Idx → EReal) (h) (r : Fin 256) (n : Fin 512) :
    Layout.block ⟨2, ![256, 512]⟩ ⟨2, ![1024, 512]⟩ 0 4 c w h (ix2 r n) = w (ix2 (colOf c r) n) := by
  rw [Layout.block_apply]
  refine congrArg w (funext fun a => Fin.ext ?_)
  rw [Layout.Tiles.idx_val]
  fin_cases a
  · simp [colOf]; ring
  · simp

theorem algebraic : Cert.algebraic_KernelIdeal_ReferenceIdeal_pre_finite_KernelIdeal := by
  intro m g m' g' hpre hin
  refine ⟨Cert.ReferenceIdeal.Value.res_main_v44 m' 0, ?_, ?_⟩
  · have H : Holds m (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)) :=
      { x := fun c b i e => congrFun (hin c).1 _
        q := fun c e r => (congrFun (hin c).2.1 (ix2 e r)).trans (block_cols c _ _ e r)
        k := fun c b j g d => congrFun (hin c).2.2.1 _
        v := fun c b j g d => congrFun (hin c).2.2.2.1 _
        o := fun c r n => (congrFun (hin c).2.2.2.2 (ix2 r n)).trans (block_rows c _ _ r n) }
    have hfin := fun c => Finite.real _ _ _ _ _ (hpre c)
    have hv : ∀ c, Exchange.outAt m c = Cert.ReferenceIdeal.Value.res_main_v44 m' 0 := fun c => by
      rw [Ref.res_eq]
      funext j
      obtain ⟨b, i, n, rfl⟩ : ∃ (b : Fin 2) (i : Fin 128) (n : Fin 512), j = ix3 b i n := ⟨j 0, j 1, j 2, eq_ix3 j⟩
      refine (outAt_apply H c b i n).trans (Ref.result_apply _ _ _ _ _ (fun t => ?_) (fun t => ?_) (fun t => ?_) b i n).symm
      · rw [← (hin 0).1]; exact (hfin 0).1 t
      · obtain ⟨e, n, rfl⟩ : ∃ (e : Fin 512) (n : Fin 1024), t = ix2 e n := ⟨t 0, t 1, eq_ix2 t⟩
        obtain ⟨d, r, rfl⟩ := exists_colOf n
        exact H.q d e r ▸ (hfin d).2.1 (ix2 e r)
      · rw [← (hin 0).2.2.1]; exact (hfin 0).2.2 t
    exact (θ_run Cert.KernelIdeal.defs _ _).mono (fun r h c => ⟨((h.1 c).1).trans (hv c), (h.1 c).2⟩) (Exchange.run_out m g)
  · exact (θ_run Cert.ReferenceIdeal.defs _ _).mono (fun r h => h 0) (Cert.ReferenceIdeal.Value.run (F := Ideal) m' g')

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Exchange.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The frame of the reference: its generated run keeps the arguments, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The certificate's claims. -/
theorem claim : Cert.Claim :=
  ⟨Cert.Kernel.Gen.facts, Cert.KernelIdeal.Gen.facts, Cert.ReferenceIdeal.Gen.facts,
   Cert.Pre_finite_KernelIdeal.Gen.facts, Cert.Pre_finite_ReferenceIdeal.Gen.facts,
   Cert.Exchange.frame_kernel, Cert.Exchange.frame_kernelIdeal, fun m g _ => Cert.Exchange.frame_kernelIdeal m g trivial,
   frame_reference, fun m g _ => frame_reference m g trivial, trivial, Cert.Value.algebraic⟩

end Cert.Proof

end
